-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S4096 : Shape := ⟨1, ![4096]⟩
abbrev S4096x4096 : Shape := ⟨2, ![4096, 4096]⟩
abbrev S1x1 : Shape := ⟨2, ![1, 1]⟩
abbrev S256x4096 : Shape := ⟨2, ![256, 4096]⟩
abbrev S2 : Shape := ⟨1, ![2]⟩
abbrev S1x256x4096 : Shape := ⟨3, ![1, 256, 4096]⟩
abbrev S1 : Shape := ⟨1, ![1]⟩
abbrev S1x1x1 : Shape := ⟨3, ![1, 1, 1]⟩
abbrev S1x2 : Shape := ⟨2, ![1, 2]⟩
abbrev S1x4096 : Shape := ⟨2, ![1, 4096]⟩
abbrev S128x4096 : Shape := ⟨2, ![128, 4096]⟩
abbrev S1x128x4096 : Shape := ⟨3, ![1, 128, 4096]⟩
abbrev S256 : Shape := ⟨1, ![256]⟩
abbrev S256x1 : Shape := ⟨2, ![256, 1]⟩
abbrev S2x4096 : Shape := ⟨2, ![2, 4096]⟩
abbrev S512x4096 : Shape := ⟨2, ![512, 4096]⟩
abbrev S512 : Shape := ⟨1, ![512]⟩
abbrev S512x1 : Shape := ⟨2, ![512, 1]⟩

abbrev nBuf : Space → Nat
  | .hbm => 23
  | .vmem => 32
  | .smem => 5
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .fp8e4m3⟩
  | .hbm, ⟨9, _⟩ => ⟨S4096x4096, .fp8e4m3⟩
  | .hbm, ⟨10, _⟩ => ⟨S1x1, .f32⟩
  | .hbm, ⟨11, _⟩ => ⟨S1x1, .f32⟩
  | .hbm, ⟨12, _⟩ => ⟨S1x2, .f32⟩
  | .hbm, ⟨13, _⟩ => ⟨S1x4096, .f32⟩
  | .hbm, ⟨14, _⟩ => ⟨S1x4096, .f32⟩
  | .hbm, ⟨15, _⟩ => ⟨S8192x4096, .f32⟩
  | .hbm, ⟨16, _⟩ => ⟨S1x1, .f32⟩
  | .hbm, ⟨17, _⟩ => ⟨S4096x4096, .fp8e4m3⟩
  | .hbm, ⟨18, _⟩ => ⟨S1x1, .f32⟩
  | .hbm, ⟨19, _⟩ => ⟨S1x4096, .f32⟩
  | .hbm, ⟨20, _⟩ => ⟨S1x4096, .f32⟩
  | .hbm, ⟨21, _⟩ => ⟨S2x4096, .f32⟩
  | .hbm, ⟨22, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .fp8e4m3⟩
  | .local _ .vmem, ⟨5, _⟩ => ⟨S256x4096, .fp8e4m3⟩
  | .local _ .vmem, ⟨6, _⟩ => ⟨S256x4096, .fp8e4m3⟩
  | .local _ .vmem, ⟨7, _⟩ => ⟨S256x4096, .fp8e4m3⟩
  | .local _ .vmem, ⟨8, _⟩ => ⟨S1x1, .f32⟩
  | .local _ .vmem, ⟨9, _⟩ => ⟨S1x1, .f32⟩
  | .local _ .vmem, ⟨10, _⟩ => ⟨S256x4096, .f32⟩
  | .local _ .vmem, ⟨11, _⟩ => ⟨S256x4096, .f32⟩
  | .local _ .vmem, ⟨12, _⟩ => ⟨S1x4096, .f32⟩
  | .local _ .vmem, ⟨13, _⟩ => ⟨S1x4096, .f32⟩
  | .local _ .vmem, ⟨14, _⟩ => ⟨S4096x4096, .fp8e4m3⟩
  | .local _ .vmem, ⟨15, _⟩ => ⟨S4096x4096, .fp8e4m3⟩
  | .local _ .vmem, ⟨16, _⟩ => ⟨S128x4096, .f32⟩
  | .local _ .vmem, ⟨17, _⟩ => ⟨S128x4096, .f32⟩
  | .local _ .vmem, ⟨18, _⟩ => ⟨S256x4096, .f32⟩
  | .local _ .vmem, ⟨19, _⟩ => ⟨S256x4096, .f32⟩
  | .local _ .vmem, ⟨20, _⟩ => ⟨S1x1, .f32⟩
  | .local _ .vmem, ⟨21, _⟩ => ⟨S256x4096, .f32⟩
  | .local _ .vmem, ⟨22, _⟩ => ⟨S256x4096, .f32⟩
  | .local _ .vmem, ⟨23, _⟩ => ⟨S256x4096, .fp8e4m3⟩
  | .local _ .vmem, ⟨24, _⟩ => ⟨S256x4096, .fp8e4m3⟩
  | .local _ .vmem, ⟨25, _⟩ => ⟨S1x1, .f32⟩
  | .local _ .vmem, ⟨26, _⟩ => ⟨S512x4096, .f32⟩
  | .local _ .vmem, ⟨27, _⟩ => ⟨S512x4096, .f32⟩
  | .local _ .vmem, ⟨28, _⟩ => ⟨S2x4096, .f32⟩
  | .local _ .vmem, ⟨29, _⟩ => ⟨S4096x4096, .fp8e4m3⟩
  | .local _ .vmem, ⟨30, _⟩ => ⟨S512x4096, .f32⟩
  | .local _ .vmem, ⟨31, _⟩ => ⟨S512x4096, .f32⟩
  | .local _ .smem, ⟨0, _⟩ => ⟨S2, .f32⟩
  | .local _ .smem, ⟨1, _⟩ => ⟨S1x2, .f32⟩
  | .local _ .smem, ⟨2, _⟩ => ⟨S1, .f32⟩
  | .local _ .smem, ⟨3, _⟩ => ⟨S1x1, .f32⟩
  | .local _ .smem, ⟨4, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_scratch0 : Ref sig .tc := ⟨.smem, 0, rfl⟩
abbrev cc1_stg5_0 : Ref sig .tc := ⟨.smem, 1, rfl⟩
abbrev cc1_scratch0 : Ref sig .tc := ⟨.smem, 2, rfl⟩
abbrev cc2_stg1_0 : Ref sig .tc := ⟨.smem, 3, rfl⟩
abbrev cc3_stg3_0 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem4_1 : DmaSem sig := 34

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x4096 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x4096 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x4096 .fp8e4m3 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .smem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== ReferenceIdeal.lean ====
abbrev S8192x4096 : Shape := ⟨2, ![8192, 4096]⟩
abbrev S4096 : Shape := ⟨1, ![4096]⟩
abbrev S4096x4096 : Shape := ⟨2, ![4096, 4096]⟩
abbrev S8192 : Shape := ⟨1, ![8192]⟩
abbrev S8192x1 : Shape := ⟨2, ![8192, 1]⟩
abbrev S1x4096 : Shape := ⟨2, ![1, 4096]⟩
abbrev S1x4096x4096 : Shape := ⟨3, ![1, 4096, 4096]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S8192x4096, .f32⟩
  | .local _ .vmem, ⟨0, _⟩ => ⟨S8192x4096, .f32⟩
  | .local _ .vmem, ⟨1, _⟩ => ⟨S4096, .f32⟩
  | .local _ .vmem, ⟨2, _⟩ => ⟨S4096, .f32⟩
  | .local _ .vmem, ⟨3, _⟩ => ⟨S4096, .f32⟩
  | .local _ .vmem, ⟨4, _⟩ => ⟨S4096, .f32⟩
  | .local _ .vmem, ⟨5, _⟩ => ⟨S4096x4096, .f32⟩
  | .local _ .vmem, ⟨6, _⟩ => ⟨S4096x4096, .f32⟩
  | .local _ .vmem, ⟨7, _⟩ => ⟨S4096x4096, .f32⟩
  | .local _ .vmem, ⟨8, _⟩ => ⟨S8192x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Ideal.PrepRun.lean ====
/- One run of the first call's body, in its two phases: the greatest magnitudes of a block, and the quantised block with the scales. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first cell of a two-cell vector. -/
def cell0 : S2.Idx := fun _ => ⟨0, by simp [S2]⟩
/-- Its second cell. -/
def cell1 : S2.Idx := fun _ => ⟨1, by simp [S2]⟩

/-- The grid point is in the first phase, where the maxima are taken. -/
abbrev inMax (i : grid0.Coords) : Prop := (Scalar.cmpi .ne (Scalar.extui (Scalar.cmpi .eq (BitVec.ofNat 32 (i 0).val) 0#32)) 0#32) = 1#1
/-- The grid point is in the second phase, where the weights are quantised. -/
abbrev inCast (i : grid0.Coords) : Prop := k0_cond2 i = 1#1

/-- The two running maxima after a point of the first phase: each cell over its own weight block. -/
def maxStep (i : grid0.Coords) (x0 x1 : Vec F S256x4096 .f32) (d : Vec F S2 .f32) : Vec F S2 .f32 :=
  fun j => if (j 0).val = 0 then k0_pay1 i x0 (d cell0) else k0_pay2 i x1 (d cell1)

set_option maxHeartbeats 1000000 in
theorem run_max (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .fp8e4m3) (harg4 : arg4.IsWhole) (arg5 : Memref sig .tc .vmem S256x4096 .fp8e4m3) (harg5 : arg5.IsWhole) (arg6 : Memref sig .tc .vmem S1x1 .f32) (harg6 : arg6.IsWhole) (arg7 : Memref sig .tc .vmem S1x1 .f32) (harg7 : arg7.IsWhole) (arg8 : Memref sig .tc .smem S2 .f32) (harg8 : arg8.IsWhole)
    (hm : inMax i) (hc : ¬ inCast i) (x0 x1 : Vec F S256x4096 .f32) (d : Vec F S2 .f32)
    (E : Set ℕ) (K : PUnit → sProp 𝕄) :
    iprop(owns (c : Thread nD τ) arg2 fullShare x0 ∗ owns (c : Thread nD τ) arg3 fullShare x1 ∗ owns (c : Thread nD τ) arg8 fullShare d
        ∗ (iprop(owns (c : Thread nD τ) arg2 fullShare x0 ∗ owns (c : Thread nD τ) arg3 fullShare x1 ∗ owns (c : Thread nD τ) arg8 fullShare (maxStep i x0 x1 d)) -∗ K ⟨⟩))
      ⊢ wp frame (wpE (defs₀ (F := F)) Variants.none c none) E (cc0_wprep i arg2 harg2 arg3 harg3 arg4 harg4 arg5 harg5 arg6 harg6 arg7 harg7 arg8 harg8) K := by
  simp only [cc0_wprep_eq_skeleton]; unfold cc0_wprep_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg8.eq_unread hfs
  sl_exec (disch := first | sl_exact hm | sl_exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.readAt_full, View.readAt_full, hf0, hf1]
  unfold run_max.sl.r run_max.sl.r_1
  funext j
  rw [View.read_writes_cons_unit _ _ _ _ _ _ rfl]
  by_cases hj : (j 0).val = 0
  · rw [dif_neg (fun h => by have := (h 0).1; rw [hj] at this; exact absurd this (by decide)),
      View.read_writes_cons_unit_of_mem _ _ _ _ _ _ (Shape.Idx.first (by decide)) rfl
        (fun a => by fin_cases a; exact hj)]
    unfold maxStep
    rw [if_pos hj]
    exact congrArg (k0_pay1 i x0) ((congrFun hfs _).trans (congrArg d (funext fun a => Fin.ext (by fin_cases a; rfl))))
  · have h1 : (j 0).val = 1 := by have : (j 0).val < 2 := (j 0).isLt; omega
    rw [dif_pos (fun a => by fin_cases a; simp [h1])]
    unfold maxStep
    rw [if_neg hj]
    unfold run_max.sl.f
    exact congrArg (k0_pay2 i x1) ((congrFun hfs _).trans (congrArg d (funext fun a => Fin.ext (by fin_cases a; rfl))))

set_option maxHeartbeats 1000000 in
theorem run_cast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .fp8e4m3) (harg4 : arg4.IsWhole) (arg5 : Memref sig .tc .vmem S256x4096 .fp8e4m3) (harg5 : arg5.IsWhole) (arg6 : Memref sig .tc .vmem S1x1 .f32) (harg6 : arg6.IsWhole) (arg7 : Memref sig .tc .vmem S1x1 .f32) (harg7 : arg7.IsWhole) (arg8 : Memref sig .tc .smem S2 .f32) (harg8 : arg8.IsWhole)
    (hm : ¬ inMax i) (hc : inCast i) (x0 x1 : Vec F S256x4096 .f32) (d : Vec F S2 .f32)
    (E : Set ℕ) (K : PUnit → sProp 𝕄) :
    iprop(owns (c : Thread nD τ) arg2 fullShare x0 ∗ owns (c : Thread nD τ) arg3 fullShare x1 ∗ (∃ y, owns (c : Thread nD τ) arg4 fullShare y)
        ∗ (∃ y, owns (c : Thread nD τ) arg5 fullShare y) ∗ (∃ y, owns (c : Thread nD τ) arg6 fullShare y) ∗ (∃ y, owns (c : Thread nD τ) arg7 fullShare y) ∗ owns (c : Thread nD τ) arg8 fullShare d
        ∗ (iprop(owns (c : Thread nD τ) arg2 fullShare x0 ∗ owns (c : Thread nD τ) arg3 fullShare x1 ∗ owns (c : Thread nD τ) arg4 fullShare (k0_pay4 (d cell0) x0)
              ∗ owns (c : Thread nD τ) arg5 fullShare (k0_pay7 (d cell1) x1) ∗ owns (c : Thread nD τ) arg6 fullShare (k0_pay5 (d cell0)) ∗ owns (c : Thread nD τ) arg7 fullShare (k0_pay8 (d cell1))
              ∗ owns (c : Thread nD τ) arg8 fullShare d) -∗ K ⟨⟩))
      ⊢ wp frame (wpE (defs₀ (F := F)) Variants.none c none) E (cc0_wprep i arg2 harg2 arg3 harg3 arg4 harg4 arg5 harg5 arg6 harg6 arg7 harg7 arg8 harg8) K := by
  simp only [cc0_wprep_eq_skeleton]; unfold cc0_wprep_skel
  unfold owns
  iintro ⟨⟨%f0, %hf0, H0⟩, ⟨%f1, %hf1, H1⟩, ⟨%y2, %f2, %hf2, H2⟩, ⟨%y3, %f3, %hf3, H3⟩, ⟨%y4, %f4, %hf4, H4⟩, ⟨%y5, %f5, %hf5, H5⟩, ⟨%fs, %hfs, HS⟩, Hk⟩
  obtain rfl := harg2.eq_unread hf0; obtain rfl := harg3.eq_unread hf1; obtain rfl := harg8.eq_unread hfs
  sl_exec (disch := first | sl_exact hm | sl_exact hc)
  sl_step
  have hr0 : run_cast.sl.r c arg8 harg8 d = d cell0 :=
    (congrFun hfs _).trans (congrArg d (funext fun a => Fin.ext (by fin_cases a; rfl)))
  have hr1 : run_cast.sl.r_1 c arg8 harg8 d = d cell1 :=
    (congrFun hfs _).trans (congrArg d (funext fun a => Fin.ext (by fin_cases a; rfl)))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_full, View.readAt_full, hf0]
    exact congrArg (fun z => k0_pay4 z x0) hr0
  isplitl [H3]
  · iexists _; isplitr
    swap; · iexact H3
    ipureintro
    rw [View.read_writes_full, View.readAt_full, hf1]
    exact congrArg (fun z => k0_pay7 z x1) hr1
  isplitl [H4]
  · iexists _; isplitr
    swap; · iexact H4
    ipureintro
    rw [View.read_writes_full]
    exact congrArg k0_pay5 hr0
  isplitl [H5]
  · iexists _; isplitr
    swap; · iexact H5
    ipureintro
    rw [View.read_writes_full]
    exact congrArg k0_pay8 hr1
  iexists _; isplitr; · ipureintro; exact harg8.read_unread _
  iexact HS

end Cert.KernelIdeal.Own
end
-- ==== Proof.Ideal.Prep.lean ====
/- The first call over its grid: what its scratch and its buffers hold after each point, and that every point's run keeps to it. -/
module

public import proofs.«01_k».proof.Proof.Ideal.PrepRun

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The staging memrefs a point is handed, and their wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)

/-- The call's scratch. -/
abbrev scr0 : Memref sig .tc .smem S2 .f32 := Memref.whole cc0_scratch0

/-- The running greatest magnitudes of the two weights after point `n`: updated in the first phase, kept in the second. -/
def held0 (c : Dev nD) : (n : ℕ) → n < cfg0.N → Vec F S2 .f32
  | 0, h => maxStep (grid0.coords ⟨0, h⟩) (blk0 V c 0 ⟨0, h⟩) (blk0 V c 1 ⟨0, h⟩) (fun _ => Scalar.ofBits .f32 0x00000000#32)
  | n + 1, h => if n + 1 < 16 then maxStep (grid0.coords ⟨n + 1, h⟩) (blk0 V c 0 ⟨n + 1, h⟩) (blk0 V c 1 ⟨n + 1, h⟩) (held0 c n (by omega)) else held0 c n (by omega)

/-- At the first point what the scratch held before is not used. -/
theorem first0 (i : grid0.Coords) (hi : (i 1).val = 0) (x y : Vec F S256x4096 .f32) (d d' : Vec F S2 .f32) : maxStep i x y d = maxStep i x y d' := by
  unfold maxStep k0_pay1 k0_pay2; simp [hi, Scalar.select, Scalar.cmpi, IntOp.cmpi]

theorem coord0_0 (t : Fin cfg0.N) : (grid0.coords t 0).val = t.val / 16 := by
  have hN : t.val < 32 := lt_of_lt_of_eq t.isLt (show cfg0.N = 32 from N_0)
  have e : (grid0.coords t 0).val = t.val / 16 % 2 := Pipeline.Grid.coords_val t 0 (by decide) rfl
  omega
theorem coord0_1 (t : Fin cfg0.N) : (grid0.coords t 1).val = t.val % 16 := by
  have e : (grid0.coords t 1).val = t.val / 1 % 16 := Pipeline.Grid.coords_val t 1 (by decide) rfl
  omega
/-- The first sixteen points are the first phase, the others the second. -/
theorem phase_max (t : Fin cfg0.N) : inMax (grid0.coords t) ↔ t.val < 16 := by
  have hN : t.val < 32 := lt_of_lt_of_eq t.isLt (show cfg0.N = 32 from N_0)
  have e0 : (grid0.coords t 0).val = t.val / 16 % 2 := Pipeline.Grid.coords_val t 0 (by decide) rfl
  simp only [inMax, e0]
  word_cmp
theorem phase_cast (t : Fin cfg0.N) : inCast (grid0.coords t) ↔ ¬ t.val < 16 := by
  have hN : t.val < 32 := lt_of_lt_of_eq t.isLt (show cfg0.N = 32 from N_0)
  have e0 : (grid0.coords t 0).val = t.val / 16 % 2 := Pipeline.Grid.coords_val t 0 (by decide) rfl
  simp only [inCast, k0_cond2, e0]
  word_cmp

/-- The invariant before point `n`: before the first the scratch holds anything; afterwards the running maximum. -/
def inv0 (c : Dev nD) : (n : ℕ) → n ≤ cfg0.N → sProp 𝕄
  | 0, _ => Pipeline.ΦA spec0 c
  | n + 1, hn => iprop((owns (c : Thread nD τ) scr0 fullShare (held0 V c n hn)
      ∗ Pipeline.scopedRestBut (Ix := Unit) (Name := ℕ) (U := UR sig nD τ) (Lvl := ℕ) (Val := Elt F) spec0 c [cc0_scratch0]) ∗ ∃ r, prngReg c r)

/-- What the region hands over at its entry, with the scratch apart. -/
theorem entry0_eq (c : Dev nD) : (Pipeline.ΦA spec0 c : sProp 𝕄)
    = iprop(((∃ d, owns (c : Thread nD τ) scr0 fullShare d)
      ∗ Pipeline.scopedRestBut (Ix := Unit) (Name := ℕ) (U := UR sig nD τ) (Lvl := ℕ) (Val := Elt F) spec0 c [cc0_scratch0]) ∗ ∃ r, prngReg c r) := by
  unfold Pipeline.ΦA; rw [scopedRest0_split]; simp only [scr0, owns_whole]; rfl

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop((owns (c : Thread nD τ) scr0 fullShare (held0 V c n hn)
      ∗ Pipeline.scopedRestBut (Ix := Unit) (Name := ℕ) (U := UR sig nD τ) (Lvl := ℕ) (Val := Elt F) spec0 c [cc0_scratch0]) ∗ ∃ r, prngReg c r) := rfl
theorem inv0_pos (c : Dev nD) (n : ℕ) (h : n ≤ cfg0.N) (hz : n ≠ 0) :
    inv0 V c n h = iprop((owns (c : Thread nD τ) scr0 fullShare (held0 V c (n - 1) (by omega))
      ∗ Pipeline.scopedRestBut (Ix := Unit) (Name := ℕ) (U := UR sig nD τ) (Lvl := ℕ) (Val := Elt F) spec0 c [cc0_scratch0]) ∗ ∃ r, prngReg c r) := by
  cases n with
  | zero => exact absurd rfl hz
  | succ n => rfl

/-- The region's proof data: the arrays as the region finds them, what each window's buffer holds after a point, and the invariant. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay4 (held0 V c t.val t.isLt cell0) (blk0 V c 0 t)
    | ⟨3, _⟩ => k0_pay7 (held0 V c t.val t.isLt cell1) (blk0 V c 1 t)
    | ⟨4, _⟩ => k0_pay5 (held0 V c t.val t.isLt cell0)
    | ⟨5, _⟩ => k0_pay8 (held0 V c t.val t.isLt cell1)
  Φ t := inv0 V c t.val (Nat.le_of_lt_succ t.isLt)
  q _ := fullShare
  owed _ := 0

theorem dat0_A (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = k0_pay4 (held0 V c t.val t.isLt cell0) (blk0 V c 0 t) := by dsimp only [dat0]
theorem after0_3 (c : Dev nD) (t : Fin cfg0.N) : (dat0 V c).after 3 t = k0_pay7 (held0 V c t.val t.isLt cell1) (blk0 V c 1 t) := by dsimp only [dat0]
theorem after0_4 (c : Dev nD) (t : Fin cfg0.N) : (dat0 V c).after 4 t = k0_pay5 (held0 V c t.val t.isLt cell0) := by dsimp only [dat0]
theorem after0_5 (c : Dev nD) (t : Fin cfg0.N) : (dat0 V c).after 5 t = k0_pay8 (held0 V c t.val t.isLt cell1) := by dsimp only [dat0]

/-! Each input's buffer holds its block at every point, fetched there or not. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [dat0_A]; try rfl) t d).trans (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [dat0_A]; try rfl) t d).trans (by unfold Dat.fetched Dat.blockOf blk0; rw [dat0_A]; try rfl)

theorem inv0_castSucc (c : Dev nD) (t : Fin cfg0.N) : (dat0 V c).Φ t.castSucc = inv0 V c t.val (Nat.le_of_lt t.isLt) := by
  dsimp only [dat0]; exact Pipeline.Dat.Φ_castSucc (inv0 V c) t
/-- The entry gives the invariant before the first point. -/
theorem enter0 (c : Dev nD) : Pipeline.ΦA spec0 c ⊢ (dat0 V c).Φ 0 := by
  rw [show (dat0 V c).Φ 0 = inv0 V c 0 (Nat.zero_le _) from rfl, inv0_zero V c 0 _ rfl]
/-- After the last point the scratch's contents are forgotten. -/
theorem leave0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 32 := N_0; omega), entry0_eq]
  iintro ⟨⟨HS, HR⟩, Hg⟩
  isplitl [HS HR]
  · isplitl [HS]; · iexists _; iexact HS
    iexact HR
  iexact Hg

/-- What the body is called with at point `t`, the windows one by one. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

/-! In the first phase the outputs' buffers are neither written nor written back. -/
theorem idle0_2 : ∀ t : Fin cfg0.N, t.val < 16 → cfg0.idle 2 (grid0.coords t) = true := by decide +kernel
theorem live0_2 : ∀ t : Fin cfg0.N, ¬ t.val < 16 → cfg0.idle 2 (grid0.coords t) = false := by decide +kernel
theorem keep0_2 : ∀ t : Fin cfg0.N, t.val < 16 → (cfg0.win 2).flush t = false := by decide +kernel
theorem idle0_3 : ∀ t : Fin cfg0.N, t.val < 16 → cfg0.idle 3 (grid0.coords t) = true := by decide +kernel
theorem live0_3 : ∀ t : Fin cfg0.N, ¬ t.val < 16 → cfg0.idle 3 (grid0.coords t) = false := by decide +kernel
theorem keep0_3 : ∀ t : Fin cfg0.N, t.val < 16 → (cfg0.win 3).flush t = false := by decide +kernel
theorem idle0_4 : ∀ t : Fin cfg0.N, t.val < 16 → cfg0.idle 4 (grid0.coords t) = true := by decide +kernel
theorem live0_4 : ∀ t : Fin cfg0.N, ¬ t.val < 16 → cfg0.idle 4 (grid0.coords t) = false := by decide +kernel
theorem keep0_4 : ∀ t : Fin cfg0.N, t.val < 16 → (cfg0.win 4).flush t = false := by decide +kernel
theorem idle0_5 : ∀ t : Fin cfg0.N, t.val < 16 → cfg0.idle 5 (grid0.coords t) = true := by decide +kernel
theorem live0_5 : ∀ t : Fin cfg0.N, ¬ t.val < 16 → cfg0.idle 5 (grid0.coords t) = false := by decide +kernel
theorem keep0_5 : ∀ t : Fin cfg0.N, t.val < 16 → (cfg0.win 5).flush t = false := by decide +kernel
theorem live0_0 : ∀ t : Fin cfg0.N, cfg0.idle 0 (grid0.coords t) = false := fun _ => rfl
theorem live0_1 : ∀ t : Fin cfg0.N, cfg0.idle 1 (grid0.coords t) = false := fun _ => rfl

set_option maxHeartbeats 2000000 in
/-- The body at any point. -/
theorem body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = inv0 V c (t.val + 1) t.isLt from rfl, inv0_succ, inv0_castSucc]
  have e0 : (dat0 V c).leavesExact 0 t = owns (c : Thread nD τ) (ms0_0 t) fullShare (blk0 V c 0 t) := by
    unfold Dat.leavesExact; rw [live0_0 t, after0_0]
  have e1 : (dat0 V c).leavesExact 1 t = owns (c : Thread nD τ) (ms0_1 t) fullShare (blk0 V c 1 t) := by
    unfold Dat.leavesExact; rw [live0_1 t, after0_1]
  rw [e0, e1]
  by_cases h : t.val < 16
  · have hm := (phase_max t).mpr h
    have hc : ¬ inCast (grid0.coords t) := fun hc => (phase_cast t).mp hc h
    rw [Dat.leavesExact_idle (dat0 V c) 2 t (idle0_2 t h) (keep0_2 t h), Dat.leavesExact_idle (dat0 V c) 3 t (idle0_3 t h) (keep0_3 t h),
      Dat.leavesExact_idle (dat0 V c) 4 t (idle0_4 t h) (keep0_4 t h), Dat.leavesExact_idle (dat0 V c) 5 t (idle0_5 t h) (keep0_5 t h)]
    by_cases hz : t.val = 0
    · have hd : ∀ d, maxStep (grid0.coords t) (blk0 V c 0 t) (blk0 V c 1 t) d = held0 V c t.val t.isLt := fun d => by
        obtain ⟨n, hn⟩ := t; obtain rfl : n = 0 := hz
        exact first0 _ (coord0_1 _) _ _ _ _
      rw [inv0_zero V c _ _ hz, entry0_eq]
      iintro ⟨⟨⟨⟨%d, HS⟩, HR⟩, Hg⟩, Ho, ⟨%d0, H0⟩, ⟨%d1, H1⟩, ⟨%d2, H2⟩, ⟨%d3, H3⟩, ⟨%d4, H4⟩, ⟨%d5, H5⟩⟩
      iapply (run_max c (grid0.coords t) _ _ _ _ _ _ _ _ _ _ _ _ _ _ hm hc (blk0 V c 0 t) (blk0 V c 1 t) d Set.univ _)
      rw [hd d]
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
    · have hd : maxStep (grid0.coords t) (blk0 V c 0 t) (blk0 V c 1 t) (held0 V c (t.val - 1) (by omega)) = held0 V c t.val t.isLt := by
        obtain ⟨n, hn⟩ := t
        cases n with
        | zero => exact absurd rfl hz
        | succ n => exact (if_pos h).symm
      rw [inv0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_max c (grid0.coords t) _ _ _ _ _ _ _ _ _ _ _ _ _ _ hm hc (blk0 V c 0 t) (blk0 V c 1 t) _ Set.univ _)
      rw [hd]
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
  · have hm : ¬ inMax (grid0.coords t) := fun hm => h ((phase_max t).mp hm)
    have hc := (phase_cast t).mpr h
    have hz : t.val ≠ 0 := by omega
    have hd : held0 V c (t.val - 1) (by omega) = held0 V c t.val t.isLt := by
      obtain ⟨n, hn⟩ := t
      cases n with
      | zero => exact absurd rfl hz
      | succ n => exact (if_neg h).symm
    rw [inv0_pos V c _ _ hz, hd]
    have e2 : (dat0 V c).leavesExact 2 t = owns (c : Thread nD τ) (ms0_2 t) fullShare (k0_pay4 (held0 V c t.val t.isLt cell0) (blk0 V c 0 t)) := by
      unfold Dat.leavesExact; rw [live0_2 t h, after0_2]
    have e3 : (dat0 V c).leavesExact 3 t = owns (c : Thread nD τ) (ms0_3 t) fullShare (k0_pay7 (held0 V c t.val t.isLt cell1) (blk0 V c 1 t)) := by
      unfold Dat.leavesExact; rw [live0_3 t h, after0_3]
    have e4 : (dat0 V c).leavesExact 4 t = owns (c : Thread nD τ) (ms0_4 t) fullShare (k0_pay5 (held0 V c t.val t.isLt cell0)) := by
      unfold Dat.leavesExact; rw [live0_4 t h, after0_4]
    have e5 : (dat0 V c).leavesExact 5 t = owns (c : Thread nD τ) (ms0_5 t) fullShare (k0_pay8 (held0 V c t.val t.isLt cell1)) := by
      unfold Dat.leavesExact; rw [live0_5 t h, after0_5]
    rw [e2, e3, e4, e5]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (run_cast c (grid0.coords t) _ _ _ _ _ _ _ _ _ _ _ _ _ _ hm hc (blk0 V c 0 t) (blk0 V c 1 t) (held0 V c t.val t.isLt) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body. -/
theorem row0 (t : Fin cfg0.N) : defs₀ (F := F) .tc cfg0.body (cfg0.bodyArgs t (cfg0.slots t)) = bodyAt0 t := by
  unfold defs₀; rw [Defs.onTc_tc]

/-- The region's body obligation, at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Cert.KernelIdeal.Own
end
-- ==== Proof.Ideal.FusedRun.lean ====
/- One run of the second call's body: two layers on a block of rows, and one more block of the third weight in its greatest magnitude. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one cell of a one-cell vector. -/
def cellM : S1.Idx := fun _ => ⟨0, by simp [S1]⟩
/-- A one-cell vector has one cell. -/
theorem one_cell (a b : S1.Idx) : a = b := funext fun k => Fin.ext (by
  have h : S1.size k = 1 := by revert k; decide
  have := (a k).isLt; have := (b k).isLt; omega)
/-- The first of the two scales. -/
def cellP : S1x2.Idx := fun a => ⟨0, by fin_cases a <;> decide⟩
/-- The second of the two scales. -/
def cellQ : S1x2.Idx := fun a => match a with | 0 => ⟨0, by decide⟩ | 1 => ⟨1, by decide⟩

/-- The residual rows after the first layer. -/
def midOut (x : Vec F S256x4096 .f32) (n0 : Vec F S1x4096 .f32) (q1 : Vec F S4096x4096 .fp8e4m3) : Vec F S256x4096 .f32 :=
  k1_pay12 (k1_pay7 x n0) (k1_pay8 x) (k1_pay9 x n0) k1_pay10 q1

/-- What one point of the two fused layers leaves: from the input rows `x`, the norm rows `n0` and `n1`, the quantised weights
    `q1` and `q2` and their scales `s0` and `s1`. -/
def fusedOut (x : Vec F S256x4096 .f32) (n0 n1 : Vec F S1x4096 .f32) (q1 q2 : Vec F S4096x4096 .fp8e4m3) (s0 s1 : Elt F .f32) : Vec F S256x4096 .f32 :=
  k1_pay3 (k1_pay13 (k1_pay6 x) (k1_pay9 x n0) k1_pay10 (midOut x n0 q1) s0)
    (k1_pay16 (k1_pay6 x) (k1_pay9 x n0) k1_pay10 (midOut x n0 q1) s0 n1) k1_pay17
    (k1_pay2 (k1_pay14 (k1_pay6 x) (k1_pay9 x n0) k1_pay10 (midOut x n0 q1) s0 n1)
      (k1_pay15 (k1_pay6 x) (k1_pay9 x n0) k1_pay10 (midOut x n0 q1) s0)
      (k1_pay16 (k1_pay6 x) (k1_pay9 x n0) k1_pay10 (midOut x n0 q1) s0 n1) k1_pay17 q2) s1

set_option maxHeartbeats 2000000 in
/-- One point of the two fused layers: besides the rows it leaves the running greatest magnitude of the third weight, in
    its scratch and in its second output. -/
theorem run_fused (c : Dev nD) (i : grid1.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4096x4096 .fp8e4m3) (harg4 : arg4.IsWhole) (arg5 : Memref sig .tc .vmem S4096x4096 .fp8e4m3) (harg5 : arg5.IsWhole) (arg6 : Memref sig .tc .smem S1x2 .f32) (harg6 : arg6.IsWhole) (arg7 : Memref sig .tc .vmem S128x4096 .f32) (harg7 : arg7.IsWhole) (arg8 : Memref sig .tc .vmem S256x4096 .f32) (harg8 : arg8.IsWhole) (arg9 : Memref sig .tc .vmem S1x1 .f32) (harg9 : arg9.IsWhole) (arg10 : Memref sig .tc .smem S1 .f32) (harg10 : arg10.IsWhole)
    (x : Vec F S256x4096 .f32) (n0 n1 : Vec F S1x4096 .f32) (q1 q2 : Vec F S4096x4096 .fp8e4m3) (s : Vec F S1x2 .f32) (w : Vec F S128x4096 .f32) (d : Vec F S1 .f32)
    (E : Set ℕ) (K : PUnit → sProp 𝕄) :
    iprop(owns (c : Thread nD τ) arg1 fullShare x ∗ owns (c : Thread nD τ) arg2 fullShare n0 ∗ owns (c : Thread nD τ) arg3 fullShare n1 ∗ owns (c : Thread nD τ) arg4 fullShare q1 ∗ owns (c : Thread nD τ) arg5 fullShare q2 ∗ owns (c : Thread nD τ) arg6 fullShare s ∗ owns (c : Thread nD τ) arg7 fullShare w
        ∗ (∃ y, owns (c : Thread nD τ) arg8 fullShare y) ∗ (∃ y, owns (c : Thread nD τ) arg9 fullShare y) ∗ owns (c : Thread nD τ) arg10 fullShare d
        ∗ (iprop(owns (c : Thread nD τ) arg1 fullShare x ∗ owns (c : Thread nD τ) arg2 fullShare n0 ∗ owns (c : Thread nD τ) arg3 fullShare n1 ∗ owns (c : Thread nD τ) arg4 fullShare q1 ∗ owns (c : Thread nD τ) arg5 fullShare q2 ∗ owns (c : Thread nD τ) arg6 fullShare s ∗ owns (c : Thread nD τ) arg7 fullShare w
            ∗ owns (c : Thread nD τ) arg8 fullShare (fusedOut x n0 n1 q1 q2 (s cellP) (s cellQ)) ∗ owns (c : Thread nD τ) arg9 fullShare (k1_pay5 i w (d cellM)) ∗ owns (c : Thread nD τ) arg10 fullShare (fun _ => k1_pay4 i w (d cellM))) -∗ K ⟨⟩))
      ⊢ wp frame (wpE (defs₀ (F := F)) Variants.none c none) E (cc1_fused2 i arg1 harg1 arg2 harg2 arg3 harg3 arg4 harg4 arg5 harg5 arg6 harg6 arg7 harg7 arg8 harg8 arg9 harg9 arg10 harg10) K := by
  simp only [cc1_fused2_eq_skeleton]; unfold cc1_fused2_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%y8, %f8, %hf8, H8⟩, ⟨%y9, %f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10
  sl_exec
  sl_step
  have h1 : View.readAt (Elt F) arg1.view (Rect.unit ![0, 0] S256x4096.size inb_S256x4096_S256x4096_0_0).toLoadRect (harg1.unread x) = x :=
    (View.readAt_full ..).trans hf1
  have h2 : View.readAt (Elt F) arg2.view (Rect.unit ![0, 0] S1x4096.size inb_S1x4096_S1x4096_0_0).toLoadRect (harg2.unread n0) = n0 :=
    (View.readAt_full ..).trans hf2
  have h3 : View.readAt (Elt F) arg3.view (Rect.unit ![0, 0] S1x4096.size inb_S1x4096_S1x4096_0_0).toLoadRect (harg3.unread n1) = n1 :=
    (View.readAt_full ..).trans hf3
  have h4 : View.readAt (Elt F) arg4.view (Rect.unit ![0, 0] S4096x4096.size inb_S4096x4096_S4096x4096_0_0).toLoadRect (harg4.unread q1) = q1 :=
    (View.readAt_full ..).trans hf4
  have h5 : View.readAt (Elt F) arg5.view (Rect.unit ![0, 0] S4096x4096.size inb_S4096x4096_S4096x4096_0_0).toLoadRect (harg5.unread q2) = q2 :=
    (View.readAt_full ..).trans hf5
  have h7 : View.readAt (Elt F) arg7.view (Rect.unit ![0, 0] S128x4096.size inb_S128x4096_S128x4096_0_0).toLoadRect (harg7.unread w) = w :=
    (View.readAt_full ..).trans hf7
  have hr : run_fused.sl.r c arg10 harg10 d = d cellM :=
    (congrFun hf10 _).trans (congrArg d (one_cell _ _))
  have hr1 : run_fused.sl.r_1 c arg6 harg6 s = s cellP :=
    (congrFun hf6 _).trans (congrArg s (funext fun a => Fin.ext (by fin_cases a <;> rfl)))
  have hr2 : run_fused.sl.r_2 c arg6 harg6 s = s cellQ :=
    (congrFun hf6 _).trans (congrArg s (funext fun a => Fin.ext (by fin_cases a <;> rfl)))
  have h51 : run_fused.sl.v51 c arg1 harg1 arg2 harg2 arg4 harg4 arg8 x n0 q1 = midOut x n0 q1 := by
    unfold run_fused.sl.v51 run_fused.sl.H8_1
    rw [View.readCov_full, h1, h2, h4]; rfl
  have h94 : run_fused.sl.v94 c arg1 harg1 arg2 harg2 arg3 harg3 arg4 harg4 arg5 harg5 arg6 harg6 arg8 x n0 n1 q1 q2 s
      = k1_pay2 (k1_pay14 (k1_pay6 x) (k1_pay9 x n0) k1_pay10 (midOut x n0 q1) (s cellP) n1)
      (k1_pay15 (k1_pay6 x) (k1_pay9 x n0) k1_pay10 (midOut x n0 q1) (s cellP))
      (k1_pay16 (k1_pay6 x) (k1_pay9 x n0) k1_pay10 (midOut x n0 q1) (s cellP) n1) k1_pay17 q2 := by
    unfold run_fused.sl.v94 run_fused.sl.H8_2
    rw [View.readCov_full]
    dsimp only
    rw [h51, h1, h2, h3, h5, hr1]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (View.read_writes_full ..).trans ?_
    dsimp only
    rw [h94, h51, h1, h2, h3, hr1, hr2]; rfl
  isplitl [H9]
  · iexists _; isplitr
    swap; · iexact H9
    ipureintro
    rw [View.read_writes_full]
    rw [h7, hr]
  iexists _; isplitr
  swap; · iexact H10
  ipureintro
  refine (View.read_writes_full ..).trans ?_
  rw [h7, hr]; rfl

end Cert.KernelIdeal.Own
end
-- ==== Proof.Ideal.Fused.lean ====
/- The second call over its grid: what its scratch and its buffers hold after each point, and that every point's run keeps to it. -/
module

public import proofs.«01_k».proof.Proof.Ideal.FusedRun

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The staging memrefs a point is handed, and their wholeness. -/
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x4096 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x4096 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .smem S1x2 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x4096 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x4096 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)

/-- The call's scratch. -/
abbrev scr1 : Memref sig .tc .smem S1 .f32 := Memref.whole cc1_scratch0

/-- The running greatest magnitude of the third weight after point `n`. -/
def held1 (c : Dev nD) : (n : ℕ) → n < cfg1.N → Vec F S1 .f32
  | 0, h => fun _ => k1_pay4 (grid1.coords ⟨0, h⟩) (blk1 V c 6 ⟨0, h⟩) (Scalar.ofBits .f32 0x00000000#32)
  | n + 1, h => fun _ => k1_pay4 (grid1.coords ⟨n + 1, h⟩) (blk1 V c 6 ⟨n + 1, h⟩) (held1 c n (by omega) cellM)

/-- At the first point what the scratch held before is not used. -/
theorem first1 (i : grid1.Coords) (hi : (i 0).val = 0) (w : Vec F S128x4096 .f32) (d d' : F .f32) : k1_pay4 i w d = k1_pay4 i w d' := by
  unfold k1_pay4; simp [hi, Scalar.select, Scalar.cmpi, IntOp.cmpi]

/-- The invariant before point `n`: before the first the scratch holds anything; afterwards the running maximum. -/
def inv1 (c : Dev nD) : (n : ℕ) → n ≤ cfg1.N → sProp 𝕄
  | 0, _ => Pipeline.ΦA spec1 c
  | n + 1, hn => iprop((owns (c : Thread nD τ) scr1 fullShare (held1 V c n hn)
      ∗ Pipeline.scopedRestBut (Ix := Unit) (Name := ℕ) (U := UR sig nD τ) (Lvl := ℕ) (Val := Elt F) spec1 c [cc1_scratch0]) ∗ ∃ r, prngReg c r)

/-- What the region hands over at its entry, with the scratch apart. -/
theorem entry1_eq (c : Dev nD) : (Pipeline.ΦA spec1 c : sProp 𝕄)
    = iprop(((∃ d, owns (c : Thread nD τ) scr1 fullShare d)
      ∗ Pipeline.scopedRestBut (Ix := Unit) (Name := ℕ) (U := UR sig nD τ) (Lvl := ℕ) (Val := Elt F) spec1 c [cc1_scratch0]) ∗ ∃ r, prngReg c r) := by
  unfold Pipeline.ΦA; rw [scopedRest1_split]; simp only [scr1, owns_whole]; rfl

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop((owns (c : Thread nD τ) scr1 fullShare (held1 V c n hn)
      ∗ Pipeline.scopedRestBut (Ix := Unit) (Name := ℕ) (U := UR sig nD τ) (Lvl := ℕ) (Val := Elt F) spec1 c [cc1_scratch0]) ∗ ∃ r, prngReg c r) := rfl
theorem inv1_pos (c : Dev nD) (n : ℕ) (h : n ≤ cfg1.N) (hz : n ≠ 0) :
    inv1 V c n h = iprop((owns (c : Thread nD τ) scr1 fullShare (held1 V c (n - 1) (by omega))
      ∗ Pipeline.scopedRestBut (Ix := Unit) (Name := ℕ) (U := UR sig nD τ) (Lvl := ℕ) (Val := Elt F) spec1 c [cc1_scratch0]) ∗ ∃ r, prngReg c r) := by
  cases n with
  | zero => exact absurd rfl hz
  | succ n => rfl

/-- The region's proof data: the arrays as the region finds them, what each window's buffer holds after a point, and the invariant. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => fusedOut (blk1 V c 0 t) (blk1 V c 1 t) (blk1 V c 2 t) (blk1 V c 3 t) (blk1 V c 4 t) (blk1 V c 5 t cellP) (blk1 V c 5 t cellQ)
    | ⟨8, _⟩ => fun _ => held1 V c t.val t.isLt cellM
  Φ t := inv1 V c t.val (Nat.le_of_lt_succ t.isLt)
  q _ := fullShare
  owed _ := 0

theorem dat1_A (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = fusedOut (blk1 V c 0 t) (blk1 V c 1 t) (blk1 V c 2 t) (blk1 V c 3 t) (blk1 V c 4 t) (blk1 V c 5 t cellP) (blk1 V c 5 t cellQ) := by dsimp only [dat1]
theorem after1_8 (c : Dev nD) (t : Fin cfg1.N) : (dat1 V c).after 8 t = fun _ => held1 V c t.val t.isLt cellM := by dsimp only [dat1]

/-! Each input's buffer holds its block at every point, fetched there or not. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [dat1_A]; try rfl) t d).trans (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [dat1_A]; try rfl) t d).trans (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [dat1_A]; try rfl) t d).trans (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [dat1_A]; try rfl) t d).trans (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [dat1_A]; try rfl) t d).trans (by unfold Dat.fetched Dat.blockOf blk1; rw [dat1_A]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [dat1_A]; try rfl) t d).trans (by unfold Dat.fetched Dat.blockOf blk1; rw [dat1_A]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [dat1_A]; try rfl) t d).trans (by unfold Dat.fetched Dat.blockOf blk1; rw [dat1_A]; try rfl)

theorem inv1_castSucc (c : Dev nD) (t : Fin cfg1.N) : (dat1 V c).Φ t.castSucc = inv1 V c t.val (Nat.le_of_lt t.isLt) := by
  dsimp only [dat1]; exact Pipeline.Dat.Φ_castSucc (inv1 V c) t
/-- The entry gives the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
/-- After the last point the scratch's contents are forgotten. -/
theorem leave1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 32 := N_1; omega), entry1_eq]
  iintro ⟨⟨HS, HR⟩, Hg⟩
  isplitl [HS HR]
  · isplitl [HS]; · iexists _; iexact HS
    iexact HR
  iexact Hg

/-- What the body is called with at point `t`, the windows one by one. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- What it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

/-- The store of the greatest magnitude: the second output holds what the scratch holds. -/
theorem out1_eq (i : grid1.Coords) (w : Vec F S128x4096 .f32) (d : F .f32) : k1_pay5 i w d = fun _ => k1_pay4 i w d := by
  unfold k1_pay5 k1_pay4; rfl

theorem coord1 (t : Fin cfg1.N) : (grid1.coords t 0).val = t.val := by
  have hN : t.val < 32 := lt_of_lt_of_eq t.isLt (show cfg1.N = 32 from N_1)
  have e : (grid1.coords t 0).val = t.val / 1 % 32 := Pipeline.Grid.coords_val t 0 (by decide) rfl
  omega

set_option maxHeartbeats 1000000 in
/-- The body at any point. -/
theorem body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = inv1 V c (t.val + 1) t.isLt from rfl, inv1_succ, inv1_castSucc,
    after1_0, after1_1, after1_2, after1_3, after1_4, after1_5, after1_6, after1_7, after1_8]
  have hrun : ∀ d, (fun _ => k1_pay4 (grid1.coords t) (blk1 V c 6 t) (d cellM)) = held1 V c t.val t.isLt →
      iprop(((owns (c : Thread nD τ) scr1 fullShare d
      ∗ Pipeline.scopedRestBut (Ix := Unit) (Name := ℕ) (U := UR sig nD τ) (Lvl := ℕ) (Val := Elt F) spec1 c [cc1_scratch0]) ∗ ∃ r, prngReg c r)
      ∗ (dat1 V c).owesAt () t.castSucc
      ∗ (∃ d : (cfg1.win 0).block.Idx → Elt F (cfg1.win 0).elt, owns (c : Thread nD τ) (ms1_0 t) fullShare (blk1 V c 0 t))
      ∗ (∃ d : (cfg1.win 1).block.Idx → Elt F (cfg1.win 1).elt, owns (c : Thread nD τ) (ms1_1 t) fullShare (blk1 V c 1 t))
      ∗ (∃ d : (cfg1.win 2).block.Idx → Elt F (cfg1.win 2).elt, owns (c : Thread nD τ) (ms1_2 t) fullShare (blk1 V c 2 t))
      ∗ (∃ d : (cfg1.win 3).block.Idx → Elt F (cfg1.win 3).elt, owns (c : Thread nD τ) (ms1_3 t) fullShare (blk1 V c 3 t))
      ∗ (∃ d : (cfg1.win 4).block.Idx → Elt F (cfg1.win 4).elt, owns (c : Thread nD τ) (ms1_4 t) fullShare (blk1 V c 4 t))
      ∗ (∃ d : (cfg1.win 5).block.Idx → Elt F (cfg1.win 5).elt, owns (c : Thread nD τ) (ms1_5 t) fullShare (blk1 V c 5 t))
      ∗ (∃ d : (cfg1.win 6).block.Idx → Elt F (cfg1.win 6).elt, owns (c : Thread nD τ) (ms1_6 t) fullShare (blk1 V c 6 t))
      ∗ (∃ d, owns (c : Thread nD τ) (ms1_7 t) fullShare ((dat1 V c).before 7 t d))
      ∗ (∃ d, owns (c : Thread nD τ) (ms1_8 t) fullShare ((dat1 V c).before 8 t d)))
      ⊢ wp frame (wpE (defs₀ (F := F)) Variants.none c none) Set.univ (bodyAt1 t) (fun _ => iprop(((owns (c : Thread nD τ) scr1 fullShare (held1 V c t.val t.isLt)
      ∗ Pipeline.scopedRestBut (Ix := Unit) (Name := ℕ) (U := UR sig nD τ) (Lvl := ℕ) (Val := Elt F) spec1 c [cc1_scratch0]) ∗ ∃ r, prngReg c r)
      ∗ (dat1 V c).owesAt () t.castSucc
      ∗ owns (c : Thread nD τ) (ms1_0 t) fullShare (blk1 V c 0 t)
      ∗ owns (c : Thread nD τ) (ms1_1 t) fullShare (blk1 V c 1 t)
      ∗ owns (c : Thread nD τ) (ms1_2 t) fullShare (blk1 V c 2 t)
      ∗ owns (c : Thread nD τ) (ms1_3 t) fullShare (blk1 V c 3 t)
      ∗ owns (c : Thread nD τ) (ms1_4 t) fullShare (blk1 V c 4 t)
      ∗ owns (c : Thread nD τ) (ms1_5 t) fullShare (blk1 V c 5 t)
      ∗ owns (c : Thread nD τ) (ms1_6 t) fullShare (blk1 V c 6 t)
      ∗ owns (c : Thread nD τ) (ms1_7 t) fullShare (fusedOut (blk1 V c 0 t) (blk1 V c 1 t) (blk1 V c 2 t) (blk1 V c 3 t) (blk1 V c 4 t) (blk1 V c 5 t cellP) (blk1 V c 5 t cellQ))
      ∗ owns (c : Thread nD τ) (ms1_8 t) fullShare (fun _ => held1 V c t.val t.isLt cellM))) := by
    intro d hd
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_fused c (grid1.coords t) _ _ _ _ _ _ _ _ _ _ _ _ _ _ _ _ _ _ _ _ (blk1 V c 0 t) (blk1 V c 1 t) (blk1 V c 2 t) (blk1 V c 3 t) (blk1 V c 4 t) (blk1 V c 5 t) (blk1 V c 6 t) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    rw [out1_eq, ← hd]
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases hz : t.val = 0
  · rw [inv1_zero V c _ _ hz, entry1_eq]
    iintro ⟨⟨⟨⟨%d, HS⟩, HR⟩, Hg⟩, HT⟩
    iapply (hrun d (by
      obtain ⟨n, hn⟩ := t; obtain rfl : n = 0 := hz
      exact funext fun _ => first1 _ (coord1 _) _ _ _))
    isplitr [HT]
    · isplitl [HS HR]
      · isplitl [HS]; · iexact HS
        iexact HR
      iexact Hg
    iexact HT
  · rw [inv1_pos V c _ _ hz]
    exact hrun _ (by
      obtain ⟨n, hn⟩ := t
      cases n with
      | zero => exact absurd rfl hz
      | succ n => rfl)

/-- The body table's row at point `t` is the body. -/
theorem row1 (t : Fin cfg1.N) : defs₀ (F := F) .tc cfg1.body (cfg1.bodyArgs t (cfg1.slots t)) = bodyAt1 t := by
  unfold defs₀; rw [Defs.onTc_tc]

/-- The region's body obligation, at every point. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Own
end
-- ==== Proof.Ideal.ThirdRun.lean ====
/- One run of the third call's body: a block of the third weight quantised. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one cell of a 1 × 1 block. -/
def cellU : S1x1.Idx := fun a => ⟨0, by fin_cases a <;> decide⟩

set_option maxHeartbeats 1000000 in
/-- One point of the third weight's quantisation: it reads the weight block and the greatest magnitude, and leaves the
    quantised block and the scale. -/
theorem run_third (c : Dev nD) (i : grid2.Coords) (arg1 : Memref sig .tc .vmem S256x4096 .f32) (harg1 : arg1.IsWhole) (arg2 : Memref sig .tc .smem S1x1 .f32) (harg2 : arg2.IsWhole) (arg3 : Memref sig .tc .vmem S256x4096 .fp8e4m3) (harg3 : arg3.IsWhole) (arg4 : Memref sig .tc .vmem S1x1 .f32) (harg4 : arg4.IsWhole)
    (x : Vec F S256x4096 .f32) (g : Vec F S1x1 .f32) (E : Set ℕ) (K : PUnit → sProp 𝕄) :
    iprop(owns (c : Thread nD τ) arg1 fullShare x ∗ owns (c : Thread nD τ) arg2 fullShare g ∗ (∃ y, owns (c : Thread nD τ) arg3 fullShare y)
        ∗ (∃ y, owns (c : Thread nD τ) arg4 fullShare y)
        ∗ (iprop(owns (c : Thread nD τ) arg1 fullShare x ∗ owns (c : Thread nD τ) arg2 fullShare g ∗ owns (c : Thread nD τ) arg3 fullShare (k2_pay2 (g cellU) x)
              ∗ owns (c : Thread nD τ) arg4 fullShare (k2_pay3 (g cellU))) -∗ K ⟨⟩))
      ⊢ wp frame (wpE (defs₀ (F := F)) Variants.none c none) E (cc2_wcast3 i arg1 harg1 arg2 harg2 arg3 harg3 arg4 harg4) K := by
  simp only [cc2_wcast3_eq_skeleton]; unfold cc2_wcast3_skel
  unfold owns
  iintro ⟨⟨%f1, %hf1, H1⟩, ⟨%f2, %hf2, H2⟩, ⟨%y3, %f3, %hf3, H3⟩, ⟨%y4, %f4, %hf4, H4⟩, Hk⟩
  obtain rfl := harg1.eq_unread hf1; obtain rfl := harg2.eq_unread hf2
  sl_exec
  sl_step
  have hr : run_third.sl.r c arg2 harg2 g = g cellU :=
    (congrFun hf2 _).trans (congrArg g (funext fun a => Fin.ext (by fin_cases a <;> rfl)))
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_full, View.readAt_full, hf1]
    exact congrArg (fun z => k2_pay2 z x) hr
  iexists _; isplitr
  swap; · iexact H4
  ipureintro
  rw [View.read_writes_full]
  exact congrArg k2_pay3 hr

end Cert.KernelIdeal.Own
end
-- ==== Proof.Ideal.Third.lean ====
/- The third call over its grid: what its buffers hold after each point, and that every point's run keeps to it. -/
module

public import proofs.«01_k».proof.Proof.Ideal.ThirdRun

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! The staging memrefs a point is handed, and their wholeness. -/
abbrev ms2_0 (t : Fin cfg2.N) : Memref sig .tc .vmem S256x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x4096 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

/-- The region's proof data: the arrays as the region finds them, what each window's buffer holds after a point, and the invariant. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => k2_pay2 (blk2 V c 1 t cellU) (blk2 V c 0 t)
    | ⟨3, _⟩ => k2_pay3 (blk2 V c 1 t cellU)
  Φ _ := Pipeline.ΦA spec2 c
  q _ := fullShare
  owed _ := 0

theorem dat2_A (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = k2_pay2 (blk2 V c 1 t cellU) (blk2 V c 0 t) := by dsimp only [dat2]
theorem after2_3 (c : Dev nD) (t : Fin cfg2.N) : (dat2 V c).after 3 t = k2_pay3 (blk2 V c 1 t cellU) := by dsimp only [dat2]

/-! Each input's buffer holds its block at every point, fetched there or not. -/
theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [dat2_A]; try rfl) t d).trans (by unfold Dat.fetched Dat.blockOf blk2; rw [dat2_A]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [dat2_A]; try rfl) t d).trans (by unfold Dat.fetched Dat.blockOf blk2; rw [dat2_A]; try rfl)

/-- What the body is called with at point `t`, the windows one by one. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- What it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point. -/
theorem body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl, show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (run_third c (grid2.coords t) _ _ _ _ _ _ _ _ (blk2 V c 0 t) (blk2 V c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t` is the body. -/
theorem row2 (t : Fin cfg2.N) : defs₀ (F := F) .tc cfg2.body (cfg2.bodyArgs t (cfg2.slots t)) = bodyAt2 t := by
  unfold defs₀; rw [Defs.onTc_tc]

/-- The region's body obligation, at every point. -/
theorem obligation2 (c : Dev nD) : BodyObligation (dat2 (F := F) V c) (defs₀ (F := F)) Variants.none () Set.univ := fun t => by
  rw [bigSep_W2, bigSep_W2, row2]
  exact triple_restated (body2 V c t) rfl .rfl fun _ => .rfl

end Cert.KernelIdeal.Own
end
-- ==== Proof.Ideal.LastRun.lean ====
/- One run of the last call's body: the third layer and the last norm on a block of rows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scale's cell of a 1 × 1 block. -/
def cellS : S1x1.Idx := fun a => ⟨0, by fin_cases a <;> decide⟩
/-- The first row of the two stacked norm weights. -/
def rowA (n : Vec F S2x4096 .f32) : Vec F S1x4096 .f32 := VecWindow.window n ![0, 0] S1x4096.size inb_S2x4096_S1x4096_0_0
/-- The second row of the two stacked norm weights. -/
def rowB (n : Vec F S2x4096 .f32) : Vec F S1x4096 .f32 := VecWindow.window n ![1, 0] S1x4096.size inb_S2x4096_S1x4096_1_0

/-- What one point of the last layer leaves: from the residual rows `r`, the two norm rows `n`, the quantised weight `q`
    and its scale `s`. -/
def lastOut (r : Vec F S512x4096 .f32) (n : Vec F S2x4096 .f32) (q : Vec F S4096x4096 .fp8e4m3) (s : Elt F .f32) : Vec F S512x4096 .f32 :=
  k3_pay1 (k3_pay2 r) (k3_pay5 r (rowA n)) (k3_pay7 (k3_pay6 r (rowA n) q)) s (rowB n)

set_option maxHeartbeats 1000000 in
/-- One point of the last layer. -/
theorem run_last (c : Dev nD) (i : grid3.Coords) (arg1 : Memref sig .tc .vmem S512x4096 .f32) (harg1 : arg1.IsWhole) (arg2 : Memref sig .tc .vmem S2x4096 .f32) (harg2 : arg2.IsWhole) (arg3 : Memref sig .tc .vmem S4096x4096 .fp8e4m3) (harg3 : arg3.IsWhole) (arg4 : Memref sig .tc .smem S1x1 .f32) (harg4 : arg4.IsWhole) (arg5 : Memref sig .tc .vmem S512x4096 .f32) (harg5 : arg5.IsWhole)
    (r : Vec F S512x4096 .f32) (n : Vec F S2x4096 .f32) (q : Vec F S4096x4096 .fp8e4m3) (s : Vec F S1x1 .f32) (E : Set ℕ) (K : PUnit → sProp 𝕄) :
    iprop(owns (c : Thread nD τ) arg1 fullShare r ∗ owns (c : Thread nD τ) arg2 fullShare n ∗ owns (c : Thread nD τ) arg3 fullShare q
        ∗ owns (c : Thread nD τ) arg4 fullShare s ∗ (∃ y, owns (c : Thread nD τ) arg5 fullShare y)
        ∗ (iprop(owns (c : Thread nD τ) arg1 fullShare r ∗ owns (c : Thread nD τ) arg2 fullShare n ∗ owns (c : Thread nD τ) arg3 fullShare q
              ∗ owns (c : Thread nD τ) arg4 fullShare s ∗ owns (c : Thread nD τ) arg5 fullShare (lastOut r n q (s cellS))) -∗ K ⟨⟩))
      ⊢ wp frame (wpE (defs₀ (F := F)) Variants.none c none) E (cc3_fused_layer i arg1 harg1 arg2 harg2 arg3 harg3 arg4 harg4 arg5 harg5) K := by
  simp only [cc3_fused_layer_eq_skeleton]; unfold cc3_fused_layer_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%y5, %f5, %hf5, H5⟩, Hk⟩
  obtain rfl := harg1.eq_unread hf1; obtain rfl := harg2.eq_unread hf2; obtain rfl := harg3.eq_unread hf3; obtain rfl := harg4.eq_unread hf4
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  have hr : run_last.sl.r c arg4 harg4 s = s cellS :=
    (congrFun hf4 _).trans (congrArg s (funext fun a => Fin.ext (by fin_cases a <;> rfl)))
  have h1 : View.readAt (Elt F) arg1.view (Rect.unit ![0, 0] S512x4096.size inb_S512x4096_S512x4096_0_0).toLoadRect (harg1.unread r) = r :=
    (View.readAt_full ..).trans hf1
  have h2 : View.readAt (Elt F) arg2.view (Rect.unit (s := S2x4096) ![0, 0] S1x4096.size inb_S2x4096_S1x4096_0_0).toLoadRect (harg2.unread n) = rowA n :=
    (View.readAt_unit _ _ _ rfl _).trans (congrArg (fun z => VecWindow.window z _ _ _) hf2)
  have h2' : View.readAt (Elt F) arg2.view (Rect.unit (s := S2x4096) ![1, 0] S1x4096.size inb_S2x4096_S1x4096_1_0).toLoadRect (harg2.unread n) = rowB n :=
    (View.readAt_unit _ _ _ rfl _).trans (congrArg (fun z => VecWindow.window z _ _ _) hf2)
  have h3 : View.readAt (Elt F) arg3.view (Rect.unit ![0, 0] S4096x4096.size inb_S4096x4096_S4096x4096_0_0).toLoadRect (harg3.unread q) = q :=
    (View.readAt_full ..).trans hf3
  have h34 : run_last.sl.v34 c arg1 harg1 arg2 harg2 arg3 harg3 arg5 r n q = k3_pay6 r (rowA n) q := by
    unfold run_last.sl.v34 run_last.sl.H5_1
    rw [View.readCov_full, h1, h2, h3]
  refine (View.read_writes_full ..).trans ?_
  dsimp only
  rw [h34, hr, h1, h2]
  exact congrArg (k3_pay1 _ _ _ _) h2'

end Cert.KernelIdeal.Own
end
-- ==== Proof.Ideal.Last.lean ====
/- The last call over its grid: what its buffers hold after each point, and that every point's run keeps to it. -/
module

public import proofs.«01_k».proof.Proof.Ideal.LastRun

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! The staging memrefs a point is handed, and their wholeness. -/
abbrev ms3_0 (t : Fin cfg3.N) : Memref sig .tc .vmem S512x4096 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4096x4096 .fp8e4m3 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .smem S1x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x4096 .f32 := win3_4.stage (cfg3.slots t 4)
abbrev hs3_4 (t : Fin cfg3.N) : (ms3_4 t).IsWhole := hstage3_4 ((cfg3.slots t 4).cast nbuf3_4)

/-- The region's proof data: the arrays as the region finds them, what each window's buffer holds after a point, and the invariant. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => lastOut (blk3 V c 0 t) (blk3 V c 1 t) (blk3 V c 2 t) (blk3 V c 3 t cellS)
  Φ _ := Pipeline.ΦA spec3 c
  q _ := fullShare
  owed _ := 0

theorem dat3_A (c : Dev nD) (w : Fin cfg3.W) : (dat3 V c).A w = V c (Pipeline.arrRef spec3 w) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = lastOut (blk3 V c 0 t) (blk3 V c 1 t) (blk3 V c 2 t) (blk3 V c 3 t cellS) := by dsimp only [dat3]

/-! Each input's buffer holds its block at every point, fetched there or not. -/
theorem before3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [dat3_A]; try rfl) t d).trans (by unfold Dat.fetched Dat.blockOf blk3; rw [dat3_A]; try rfl)
theorem before3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [dat3_A]; try rfl) t d).trans (by unfold Dat.fetched Dat.blockOf blk3; rw [dat3_A]; try rfl)
theorem before3_2 (c : Dev nD) (t : Fin cfg3.N) (d) : (dat3 V c).before 2 t d = blk3 V c 2 t :=
  ((dat3 V c).before_in_eq_fetched 2 rfl (fun _ => rfl) (fun _ _ _ => rfl)
    (fun t => by rw [after3_2]; unfold Dat.blockOf blk3; rw [dat3_A]; try rfl) t d).trans (by unfold Dat.fetched Dat.blockOf blk3; rw [dat3_A]; try rfl)
theorem before3_3 (c : Dev nD) (t : Fin cfg3.N) (d) : (dat3 V c).before 3 t d = blk3 V c 3 t :=
  ((dat3 V c).before_in_eq_fetched 3 rfl (fun _ => rfl) (fun _ _ _ => rfl)
    (fun t => by rw [after3_3]; unfold Dat.blockOf blk3; rw [dat3_A]; try rfl) t d).trans (by unfold Dat.fetched Dat.blockOf blk3; rw [dat3_A]; try rfl)

/-- What the body is called with at point `t`, the windows one by one. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- What it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

/-- The body at any point. -/
theorem body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl, show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (run_last c (grid3.coords t) _ _ _ _ _ _ _ _ _ _ (blk3 V c 0 t) (blk3 V c 1 t) (blk3 V c 2 t) (blk3 V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body. -/
theorem row3 (t : Fin cfg3.N) : defs₀ (F := F) .tc cfg3.body (cfg3.bodyArgs t (cfg3.slots t)) = bodyAt3 t := by
  unfold defs₀; rw [Defs.onTc_tc]

/-- The region's body obligation, at every point. -/
theorem obligation3 (c : Dev nD) : BodyObligation (dat3 (F := F) V c) (defs₀ (F := F)) Variants.none () Set.univ := fun t => by
  rw [bigSep_W3, bigSep_W3, row3]
  exact triple_restated (body3 V c t) rfl .rfl fun _ => .rfl

end Cert.KernelIdeal.Own
end
-- ==== Proof.Ideal.Run.lean ====
/- The whole program: the buffers between its calls, that it runs, and what every array of interest ends holding. -/
module

public import proofs.«01_k».proof.Proof.Ideal.Prep
public import proofs.«01_k».proof.Proof.Ideal.Fused
public import proofs.«01_k».proof.Proof.Ideal.Third
public import proofs.«01_k».proof.Proof.Ideal.Last
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items of the program -/

/-- A valuation read at the TensorCore's references. -/
abbrev refs (W : Dev nD → Valuation τ sig (Elt F)) : (c : Dev nD) → (b : Ref sig .tc) → Buf (Elt F) ((c : Thread nD τ).loc b) := fun c b => W c b

/-- The buffers at launch. -/
abbrev mem0 : Dev nD → Valuation τ sig (Elt F) := fun c b => m (c, b)
/-- After the first two weights are quantised: its arrays at what the write-backs leave, every other buffer as before. -/
def mem1 (c : Dev nD) : Valuation τ sig (Elt F) :=
  Pipeline.withArrays spec0 c (mem0 m c) fun w => (dat0 (refs (mem0 m)) c).arrAt w cfg0.N
theorem mem1_arr (c : Dev nD) (w : Fin cfg0.W) :
    mem1 m c (Proc.devRef .tc (Pipeline.arrRef spec0 w)) = (dat0 (refs (mem0 m)) c).arrAt w cfg0.N := by
  unfold mem1; exact Pipeline.withArrays_arr spec0 launch0.win.arr_inj c _ _ w
theorem mem1_else (c : Dev nD) (b : Ref sig .tc) (hb : ∀ w, Pipeline.arrRef spec0 w ≠ b) :
    mem1 m c (Proc.devRef .tc b) = mem0 m c (Proc.devRef .tc b) := by
  unfold mem1; exact Pipeline.withArrays_of_ne spec0 c _ _ b hb
/-- A buffer that is no output array of the region is unchanged by it. -/
theorem mem1_of (c : Dev nD) (r : Ref sig .tc) (h : ∀ w : Fin cfg0.W, Pipeline.arrRef spec0 w = r → (cfg0.win w).isOut = false) :
    mem1 m c (Proc.devRef .tc r) = mem0 m c (Proc.devRef .tc r) := by
  by_cases hw : ∃ w : Fin cfg0.W, Pipeline.arrRef spec0 w = r
  · obtain ⟨w, rfl⟩ := hw
    exact (mem1_arr m c w).trans (((dat0 (refs (mem0 m)) c).arrAt_in w (h w rfl) _).trans (dat0_A (refs (mem0 m)) c w))
  · exact mem1_else m c r fun w e => hw ⟨w, e⟩
theorem mem1_in (c : Dev nD) (w : Fin cfg0.W) : (dat0 (refs (mem0 m)) c).arrAt w cfg0.N = refs (mem1 m) c (Pipeline.arrRef spec0 w) :=
  (mem1_arr m c w).symm
theorem mem1_rest (c : Dev nD) : ∀ b, b ∉ Finset.univ.image (Pipeline.arrRef spec0) → refs (mem1 m) c b = refs (mem0 m) c b :=
  fun b hb => mem1_else m c b fun w e => hb (Finset.mem_image.mpr ⟨w, Finset.mem_univ _, e⟩)

/-- After the two scales are joined and the norm weights laid out as rows. -/
abbrev mem2 : Dev nD → Valuation τ sig (Elt F) := fun c => StableHlo.after hostOps1 (mem1 m c)
theorem mem2_of (c : Dev nD) (r : Ref sig .tc) (h : r ∉ hostOps1_W) : mem2 m c (Proc.devRef .tc r) = mem1 m c (Proc.devRef .tc r) :=
  StableHlo.after_of_writes_sub hostOps1 _ hostOps1_writes h

/-- After the two fused layers: its arrays at what the write-backs leave, every other buffer as before. -/
def mem3 (c : Dev nD) : Valuation τ sig (Elt F) :=
  Pipeline.withArrays spec1 c (mem2 m c) fun w => (dat1 (refs (mem2 m)) c).arrAt w cfg1.N
theorem mem3_arr (c : Dev nD) (w : Fin cfg1.W) :
    mem3 m c (Proc.devRef .tc (Pipeline.arrRef spec1 w)) = (dat1 (refs (mem2 m)) c).arrAt w cfg1.N := by
  unfold mem3; exact Pipeline.withArrays_arr spec1 launch1.win.arr_inj c _ _ w
theorem mem3_else (c : Dev nD) (b : Ref sig .tc) (hb : ∀ w, Pipeline.arrRef spec1 w ≠ b) :
    mem3 m c (Proc.devRef .tc b) = mem2 m c (Proc.devRef .tc b) := by
  unfold mem3; exact Pipeline.withArrays_of_ne spec1 c _ _ b hb
/-- A buffer that is no output array of the region is unchanged by it. -/
theorem mem3_of (c : Dev nD) (r : Ref sig .tc) (h : ∀ w : Fin cfg1.W, Pipeline.arrRef spec1 w = r → (cfg1.win w).isOut = false) :
    mem3 m c (Proc.devRef .tc r) = mem2 m c (Proc.devRef .tc r) := by
  by_cases hw : ∃ w : Fin cfg1.W, Pipeline.arrRef spec1 w = r
  · obtain ⟨w, rfl⟩ := hw
    exact (mem3_arr m c w).trans (((dat1 (refs (mem2 m)) c).arrAt_in w (h w rfl) _).trans (dat1_A (refs (mem2 m)) c w))
  · exact mem3_else m c r fun w e => hw ⟨w, e⟩
theorem mem3_in (c : Dev nD) (w : Fin cfg1.W) : (dat1 (refs (mem2 m)) c).arrAt w cfg1.N = refs (mem3 m) c (Pipeline.arrRef spec1 w) :=
  (mem3_arr m c w).symm
theorem mem3_rest (c : Dev nD) : ∀ b, b ∉ Finset.univ.image (Pipeline.arrRef spec1) → refs (mem3 m) c b = refs (mem2 m) c b :=
  fun b hb => mem3_else m c b fun w e => hb (Finset.mem_image.mpr ⟨w, Finset.mem_univ _, e⟩)

/-- After the third weight is quantised: its arrays at what the write-backs leave, every other buffer as before. -/
def mem4 (c : Dev nD) : Valuation τ sig (Elt F) :=
  Pipeline.withArrays spec2 c (mem3 m c) fun w => (dat2 (refs (mem3 m)) c).arrAt w cfg2.N
theorem mem4_arr (c : Dev nD) (w : Fin cfg2.W) :
    mem4 m c (Proc.devRef .tc (Pipeline.arrRef spec2 w)) = (dat2 (refs (mem3 m)) c).arrAt w cfg2.N := by
  unfold mem4; exact Pipeline.withArrays_arr spec2 launch2.win.arr_inj c _ _ w
theorem mem4_else (c : Dev nD) (b : Ref sig .tc) (hb : ∀ w, Pipeline.arrRef spec2 w ≠ b) :
    mem4 m c (Proc.devRef .tc b) = mem3 m c (Proc.devRef .tc b) := by
  unfold mem4; exact Pipeline.withArrays_of_ne spec2 c _ _ b hb
/-- A buffer that is no output array of the region is unchanged by it. -/
theorem mem4_of (c : Dev nD) (r : Ref sig .tc) (h : ∀ w : Fin cfg2.W, Pipeline.arrRef spec2 w = r → (cfg2.win w).isOut = false) :
    mem4 m c (Proc.devRef .tc r) = mem3 m c (Proc.devRef .tc r) := by
  by_cases hw : ∃ w : Fin cfg2.W, Pipeline.arrRef spec2 w = r
  · obtain ⟨w, rfl⟩ := hw
    exact (mem4_arr m c w).trans (((dat2 (refs (mem3 m)) c).arrAt_in w (h w rfl) _).trans (dat2_A (refs (mem3 m)) c w))
  · exact mem4_else m c r fun w e => hw ⟨w, e⟩
theorem mem4_in (c : Dev nD) (w : Fin cfg2.W) : (dat2 (refs (mem3 m)) c).arrAt w cfg2.N = refs (mem4 m) c (Pipeline.arrRef spec2 w) :=
  (mem4_arr m c w).symm
theorem mem4_rest (c : Dev nD) : ∀ b, b ∉ Finset.univ.image (Pipeline.arrRef spec2) → refs (mem4 m) c b = refs (mem3 m) c b :=
  fun b hb => mem4_else m c b fun w e => hb (Finset.mem_image.mpr ⟨w, Finset.mem_univ _, e⟩)

/-- After the last two norm weights are stacked. -/
abbrev mem5 : Dev nD → Valuation τ sig (Elt F) := fun c => StableHlo.after hostOps3 (mem4 m c)
theorem mem5_of (c : Dev nD) (r : Ref sig .tc) (h : r ∉ hostOps3_W) : mem5 m c (Proc.devRef .tc r) = mem4 m c (Proc.devRef .tc r) :=
  StableHlo.after_of_writes_sub hostOps3 _ hostOps3_writes h

/-- After the last layer: its arrays at what the write-backs leave, every other buffer as before. -/
def mem6 (c : Dev nD) : Valuation τ sig (Elt F) :=
  Pipeline.withArrays spec3 c (mem5 m c) fun w => (dat3 (refs (mem5 m)) c).arrAt w cfg3.N
theorem mem6_arr (c : Dev nD) (w : Fin cfg3.W) :
    mem6 m c (Proc.devRef .tc (Pipeline.arrRef spec3 w)) = (dat3 (refs (mem5 m)) c).arrAt w cfg3.N := by
  unfold mem6; exact Pipeline.withArrays_arr spec3 launch3.win.arr_inj c _ _ w
theorem mem6_else (c : Dev nD) (b : Ref sig .tc) (hb : ∀ w, Pipeline.arrRef spec3 w ≠ b) :
    mem6 m c (Proc.devRef .tc b) = mem5 m c (Proc.devRef .tc b) := by
  unfold mem6; exact Pipeline.withArrays_of_ne spec3 c _ _ b hb
/-- A buffer that is no output array of the region is unchanged by it. -/
theorem mem6_of (c : Dev nD) (r : Ref sig .tc) (h : ∀ w : Fin cfg3.W, Pipeline.arrRef spec3 w = r → (cfg3.win w).isOut = false) :
    mem6 m c (Proc.devRef .tc r) = mem5 m c (Proc.devRef .tc r) := by
  by_cases hw : ∃ w : Fin cfg3.W, Pipeline.arrRef spec3 w = r
  · obtain ⟨w, rfl⟩ := hw
    exact (mem6_arr m c w).trans (((dat3 (refs (mem5 m)) c).arrAt_in w (h w rfl) _).trans (dat3_A (refs (mem5 m)) c w))
  · exact mem6_else m c r fun w e => hw ⟨w, e⟩
theorem mem6_in (c : Dev nD) (w : Fin cfg3.W) : (dat3 (refs (mem5 m)) c).arrAt w cfg3.N = refs (mem6 m) c (Pipeline.arrRef spec3 w) :=
  (mem6_arr m c w).symm
theorem mem6_rest (c : Dev nD) : ∀ b, b ∉ Finset.univ.image (Pipeline.arrRef spec3) → refs (mem6 m) c b = refs (mem5 m) c b :=
  fun b hb => mem6_else m c b fun w e => hb (Finset.mem_image.mpr ⟨w, Finset.mem_univ _, e⟩)

/-- No item writes an argument. -/
theorem mem6_arg (c : Dev nD) : ∀ r ∈ ([main_arg0, main_arg1, main_arg2, main_arg3, main_arg4, main_arg5, main_arg6, main_arg7] : List (Ref sig .tc)),
    mem6 m c (Proc.devRef .tc r) = m ((c : Thread nD τ).loc r) := by
  intro r hr
  have h0 : ∀ r ∈ ([main_arg0, main_arg1, main_arg2, main_arg3, main_arg4, main_arg5, main_arg6, main_arg7] : List (Ref sig .tc)),
      (∀ w : Fin cfg0.W, Pipeline.arrRef spec0 w = r → (cfg0.win w).isOut = false) ∧ r ∉ hostOps1_W
      ∧ (∀ w : Fin cfg1.W, Pipeline.arrRef spec1 w = r → (cfg1.win w).isOut = false)
      ∧ (∀ w : Fin cfg2.W, Pipeline.arrRef spec2 w = r → (cfg2.win w).isOut = false) ∧ r ∉ hostOps3_W
      ∧ (∀ w : Fin cfg3.W, Pipeline.arrRef spec3 w = r → (cfg3.win w).isOut = false) := ListAll.forall_mem_of_all_decide (by decide +kernel)
  obtain ⟨h0, h1, h2, h3, h4, h5⟩ := h0 r hr
  exact (mem6_of m c r h5).trans <| (mem5_of m c r h4).trans <| (mem4_of m c r h3).trans <| (mem3_of m c r h2).trans <|
    (mem2_of m c r h1).trans <| (mem1_of m c r h0).trans rfl

/-! ## The items as segments -/

/-- Every region's proof data, each at the buffers its region is entered with. -/
def pdat : (p : Fin 4) → (c : Dev nD) → Dat τ (Elt F) Unit ℕ (UR sig nD τ) ℕ (Pipeline.pin (pcfgs (F := F)) adm p) c
  | ⟨0, _⟩ => fun c => dat0 (refs (mem0 m)) c
  | ⟨1, _⟩ => fun c => dat1 (refs (mem2 m)) c
  | ⟨2, _⟩ => fun c => dat2 (refs (mem3 m)) c
  | ⟨3, _⟩ => fun c => dat3 (refs (mem5 m)) c
/-- No core waits on another. -/
abbrev noCells : GSem nD τ sig → Finset Unit := fun _ => ∅
abbrev noLevel : GSem nD τ sig → Unit → ℕ := fun _ _ => 0
/-- What rides beside the buffers: the generator register, and nothing owed. -/
abbrev beside (c : Dev nD) : sProp 𝕄 := iprop((∃ r, prngReg c r) ∗ ∃ W, owes (c : Thread nD τ) (0 : CellTallies nD τ sig Unit) W)
/-- The unscoped buffers at given contents, and what rides beside. -/
abbrev state (W : Dev nD → Valuation τ sig (Elt F)) (c : Dev nD) : sProp 𝕄 :=
  iprop(StableHlo.held (c : Thread nD τ) (Pipeline.ucRefs τ sig) (W c) ∗ beside c)
/-- The end without what is owed. -/
abbrev endState (c : Dev nD) : sProp 𝕄 := iprop(StableHlo.held (c : Thread nD τ) (Pipeline.ucRefs τ sig) (mem6 m c) ∗ ∃ r, prngReg c r)
/-- A host stretch from given contents. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noCells noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

set_option backward.isDefEq.respectTransparency.types false in
/-- Region 0 over the buffers: its arrays are taken out at the entry and put back at the exit. -/
def seg0R : Pipeline.RegionSeg (pcfgs (F := F)) adm (pdat m) () defs₀ Variants.none noCells noLevel 0 where
  win := launch0.win.to₀
  block_pos := launch0.block_pos
  stage_whole := launch0.stage_whole
  K := PEmpty
  osem k := k.elim
  ho := Pipeline.OwnSemFacts.none _
  hbody c := (obligation0 (refs (mem0 m)) c).loose
  hwaits := Pipeline.hwaits_of_owed_zero _ _ _ _ noCells noLevel 0 fun _ _ => rfl
  pre c := state (mem0 m) c
  post c := state (mem1 m) c
  X c := iprop(∃ r, prngReg c r)
  Y c := iprop(∃ r, prngReg c r)
  Z c := Pipeline.unscopedRest (Ix := Unit) (Name := ℕ) (U := UR sig nD τ) (Lvl := ℕ) spec0 c (refs (mem0 m) c)
  hentry c := by
    rw [Pipeline.ownSems0_none]
    have hsplit := Pipeline.arrays_of_unscopedBufs (p := 0) (pcfgs (F := F)) adm (pdat m) launch0.win launch0.arr_whole c
      ((pdat m 0 c).share_full fun _ => rfl) (refs (mem0 m) c) (dat0_A (refs (mem0 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (refs (mem0 m)) c)
    unfold Pipeline.ΦA
    iintro ⟨Hp, -, Hr⟩
    isplitl [Hr]; · iexact Hr
    iexact Hp
  hout c := by
    rw [Pipeline.ownSems0_none]
    refine (leave0 (refs (mem0 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (refs (mem0 m) c) (refs (mem1 m) c) ((pdat m 0 c).arrAt · cfg0.N) (mem1_in m c) (mem1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the buffers: its arrays are taken out at the entry and put back at the exit. -/
def seg1R : Pipeline.RegionSeg (pcfgs (F := F)) adm (pdat m) () defs₀ Variants.none noCells noLevel 1 where
  win := launch1.win.to₀
  block_pos := launch1.block_pos
  stage_whole := launch1.stage_whole
  K := PEmpty
  osem k := k.elim
  ho := Pipeline.OwnSemFacts.none _
  hbody c := (obligation1 (refs (mem2 m)) c).loose
  hwaits := Pipeline.hwaits_of_owed_zero _ _ _ _ noCells noLevel 1 fun _ _ => rfl
  pre c := state (mem2 m) c
  post c := state (mem3 m) c
  X c := iprop(∃ r, prngReg c r)
  Y c := iprop(∃ r, prngReg c r)
  Z c := Pipeline.unscopedRest (Ix := Unit) (Name := ℕ) (U := UR sig nD τ) (Lvl := ℕ) spec1 c (refs (mem2 m) c)
  hentry c := by
    rw [Pipeline.ownSems0_none]
    have hsplit := Pipeline.arrays_of_unscopedBufs (p := 1) (pcfgs (F := F)) adm (pdat m) launch1.win launch1.arr_whole c
      ((pdat m 1 c).share_full fun _ => rfl) (refs (mem2 m) c) (dat1_A (refs (mem2 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter1 (refs (mem2 m)) c)
    unfold Pipeline.ΦA
    iintro ⟨Hp, -, Hr⟩
    isplitl [Hr]; · iexact Hr
    iexact Hp
  hout c := by
    rw [Pipeline.ownSems0_none]
    refine (leave1 (refs (mem2 m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (refs (mem2 m) c) (refs (mem3 m) c) ((pdat m 1 c).arrAt · cfg1.N) (mem3_in m c) (mem3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the buffers: its arrays are taken out at the entry and put back at the exit. -/
def seg2R : Pipeline.RegionSeg (pcfgs (F := F)) adm (pdat m) () defs₀ Variants.none noCells noLevel 2 where
  win := launch2.win.to₀
  block_pos := launch2.block_pos
  stage_whole := launch2.stage_whole
  K := PEmpty
  osem k := k.elim
  ho := Pipeline.OwnSemFacts.none _
  hbody c := (obligation2 (refs (mem3 m)) c).loose
  hwaits := Pipeline.hwaits_of_owed_zero _ _ _ _ noCells noLevel 2 fun _ _ => rfl
  pre c := state (mem3 m) c
  post c := state (mem4 m) c
  X c := iprop(∃ r, prngReg c r)
  Y c := iprop(∃ r, prngReg c r)
  Z c := Pipeline.unscopedRest (Ix := Unit) (Name := ℕ) (U := UR sig nD τ) (Lvl := ℕ) spec2 c (refs (mem3 m) c)
  hentry c := by
    rw [Pipeline.ownSems0_none]
    have hsplit := Pipeline.arrays_of_unscopedBufs (p := 2) (pcfgs (F := F)) adm (pdat m) launch2.win launch2.arr_whole c
      ((pdat m 2 c).share_full fun _ => rfl) (refs (mem3 m) c) (dat2_A (refs (mem3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdat m) ((pdat m 2 c).share_full fun _ => rfl)
      (refs (mem3 m) c) (refs (mem4 m) c) ((pdat m 2 c).arrAt · cfg2.N) (mem4_in m c) (mem4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the buffers: its arrays are taken out at the entry and put back at the exit. -/
def seg3R : Pipeline.RegionSeg (pcfgs (F := F)) adm (pdat m) () defs₀ Variants.none noCells noLevel 3 where
  win := launch3.win.to₀
  block_pos := launch3.block_pos
  stage_whole := launch3.stage_whole
  K := PEmpty
  osem k := k.elim
  ho := Pipeline.OwnSemFacts.none _
  hbody c := (obligation3 (refs (mem5 m)) c).loose
  hwaits := Pipeline.hwaits_of_owed_zero _ _ _ _ noCells noLevel 3 fun _ _ => rfl
  pre c := state (mem5 m) c
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (refs (mem5 m) c)
  hentry c := by
    rw [Pipeline.ownSems0_none]
    have hsplit := Pipeline.arrays_of_unscopedBufs (p := 3) (pcfgs (F := F)) adm (pdat m) launch3.win launch3.arr_whole c
      ((pdat m 3 c).share_full fun _ => rfl) (refs (mem5 m) c) (dat3_A (refs (mem5 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdat m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdat m) ((pdat m 3 c).share_full fun _ => rfl)
      (refs (mem5 m) c) (refs (mem6 m) c) ((pdat m 3 c).arrAt · cfg3.N) (mem6_in m c) (mem6_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program's run -/

/-- The program's items in order. -/
abbrev items : List (Pipeline.Seg (pcfgs (F := F)) adm (pdat m) () defs₀ Variants.none noCells noLevel) :=
  [ .region (seg0R m), .host (stretch hostOps1 hostOps1_sub hostOps1_fresh (mem1 m)), .region (seg1R m), .region (seg2R m),
    .host (stretch hostOps3 hostOps3_sub hostOps3_fresh (mem4 m)), .region (seg3R m) ]
theorem main_items (c : Dev nD) : main (F := F) c = Pipeline.Seg.run (items m) := (main_chain c).trans (by chain_rfl)

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: from any memory with zero counters every execution ends, with every unscoped buffer at the last contents and
    every counter at zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = mem6 m c b) ∧ r.2.sem = fun _ => 0) :=
  Pipeline.θ_run_regions_kit_sems (pcfgs (F := F)) adm (pdat m) () cellOf_inj emb₁ defs₀ Variants.none noCells noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (mem0 m)) (Tₙ := endState m)
    (hch := ⟨fun _ => .rfl, fun _ => .rfl, fun _ => .rfl, fun _ => .rfl, fun _ => .rfl, fun _ => .rfl, fun _ => .rfl⟩)
    (hinit := by
      refine Pipeline.initEach noCells noLevel fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem6 m c b)
    (hfin := fun c s' => by
      iintro ⟨⟨Hh, -⟩, HSI⟩
      unfold StableHlo.held
      imodintro
      iapply (pointsTo_read_all (Pipeline.ucRefs τ sig) (fun b => (((c : Thread nD τ)).1, b)) (mem6 m c) s')
      isplitl [Hh] <;> iassumption)
    (hQ := fun s h hz => ⟨h, funext fun g => hz g (.inr (regions_no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(h.1 c _ (unscoped_mem main_arg0 (by decide))).trans (mem6_arg m c main_arg0 (by decide)),
      (h.1 c _ (unscoped_mem main_arg1 (by decide))).trans (mem6_arg m c main_arg1 (by decide)),
      (h.1 c _ (unscoped_mem main_arg2 (by decide))).trans (mem6_arg m c main_arg2 (by decide)),
      (h.1 c _ (unscoped_mem main_arg3 (by decide))).trans (mem6_arg m c main_arg3 (by decide)),
      (h.1 c _ (unscoped_mem main_arg4 (by decide))).trans (mem6_arg m c main_arg4 (by decide)),
      (h.1 c _ (unscoped_mem main_arg5 (by decide))).trans (mem6_arg m c main_arg5 (by decide)),
      (h.1 c _ (unscoped_mem main_arg6 (by decide))).trans (mem6_arg m c main_arg6 (by decide)),
      (h.1 c _ (unscoped_mem main_arg7 (by decide))).trans (mem6_arg m c main_arg7 (by decide))⟩, h.2⟩) (run_all m ρ)

/-- The run with the result named. -/
theorem run_result : θ_run defs (onTc (τ := τ) (main (F := F))) ⟨m, fun _ => 0, ρ⟩ (fun r => ∀ c : Dev nD,
    r.2.mem ((c.tc : Thread nD τ).loc main_v9) = (dat3 (refs (mem5 m)) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
    ) :=
  (θ_run defs _ _).mono (fun _ h => fun c =>
    ⟨(h.1 c _ (unscoped_mem main_v9 (by decide))).trans (mem6_arr m c 4),
      (h.1 c _ (unscoped_mem main_arg0 (by decide))).trans (mem6_arg m c main_arg0 (by decide)),
      (h.1 c _ (unscoped_mem main_arg1 (by decide))).trans (mem6_arg m c main_arg1 (by decide)),
      (h.1 c _ (unscoped_mem main_arg2 (by decide))).trans (mem6_arg m c main_arg2 (by decide)),
      (h.1 c _ (unscoped_mem main_arg3 (by decide))).trans (mem6_arg m c main_arg3 (by decide)),
      (h.1 c _ (unscoped_mem main_arg4 (by decide))).trans (mem6_arg m c main_arg4 (by decide)),
      (h.1 c _ (unscoped_mem main_arg5 (by decide))).trans (mem6_arg m c main_arg5 (by decide)),
      (h.1 c _ (unscoped_mem main_arg6 (by decide))).trans (mem6_arg m c main_arg6 (by decide)),
      (h.1 c _ (unscoped_mem main_arg7 (by decide))).trans (mem6_arg m c main_arg7 (by decide))⟩) (run_all m ρ)

end Cert.KernelIdeal.Own
end
-- ==== Proof.Same.lean ====
/- The program as printed and the ideal program, over the same floats, are one program: their bodies, their calls and their host
   code are the same, so what is proved of the one for every kind of floats is had of the other. -/
module

public import proofs.«01_k».proof.Defs
public import proofs.«01_k».proof.Proof.Gen.Kernel
public import proofs.«01_k».proof.Proof.Ideal.Run

@[expose] public section
set_option maxRecDepth 16384
set_option maxHeartbeats 1000000
noncomputable section
namespace Cert.Same
open Idealize.ShloMosaic Idealize.SL.Sem

/-! The bodies of the four calls. -/

theorem prep_same : @Cert.Kernel.cc0_wprep Bits _ _ = @Cert.KernelIdeal.cc0_wprep Bits _ _ := rfl
theorem fused_same : @Cert.Kernel.cc1_fused2 Bits _ _ = @Cert.KernelIdeal.cc1_fused2 Bits _ _ := rfl
theorem third_same : @Cert.Kernel.cc2_wcast3 Bits _ _ = @Cert.KernelIdeal.cc2_wcast3 Bits _ _ := rfl
theorem last_same : @Cert.Kernel.cc3_fused_layer Bits _ _ = @Cert.KernelIdeal.cc3_fused_layer Bits _ _ := rfl

/-- The tables of bodies. -/
theorem bodies_same : Cert.Kernel.defs₀ (F := Bits) = Cert.KernelIdeal.defs₀ (F := Bits) := by
  unfold Cert.Kernel.defs₀ Cert.KernelIdeal.defs₀
  rw [prep_same, fused_same, third_same, last_same]
  refine congrArg Defs.onTc ?_
  funext l a
  match l, a with
  | 0, _ => rfl
  | 1, _ => rfl
  | 2, _ => rfl
  | 3, _ => rfl

/-- The tables with the calls. -/
theorem defs_same : Cert.Kernel.defs (F := Bits) = Cert.KernelIdeal.defs (F := Bits) := by
  unfold Cert.Kernel.defs Cert.KernelIdeal.defs
  rw [bodies_same]
  rfl

/-- The host code. -/
theorem main_same : Cert.Kernel.main (F := Bits) = Cert.KernelIdeal.main (F := Bits) := by
  unfold Cert.Kernel.main Cert.KernelIdeal.main
  rfl

/-- The frame of the program as printed. -/
theorem frame : @Cert.quiescent_Kernel Cert.Kernel.Gen.facts := by
  intro m ρ _
  rw [defs_same, main_same]
  exact Cert.KernelIdeal.Own.frame (F := Bits) m ρ

end Cert.Same
end
-- ==== Proof.Value.Rows.lean ====
/- The mathematics of one row, over the extended reals: the root mean square norm, the scale, the quantiser and one layer, as the
   reference and as the kernel compute it, and that the two agree with no condition on the row. -/
module

public import Idealize.ShloMosaic.PureOps.Ideal
public import Idealize.ShloMosaic.PureOps.Ideal.Laws
public import Idealize.ShloMosaic.Lib.IdealHost

@[expose] public section

noncomputable section

namespace Cert.Rows

open Idealize.ShloMosaic

/-- The word of `-∞`, from which a maximum starts. -/
abbrev least : EReal := Ideal.ofBits .f32 0xFF800000#32
/-- The largest value of the eight-bit format. -/
abbrev top8 : EReal := Ideal.ofBits .f32 0x43E00000#32
/-- Its negative. -/
abbrev low8 : EReal := Ideal.ofBits .f32 0xC3E00000#32
/-- The least scale. -/
abbrev floor8 : EReal := Ideal.ofBits .f32 0x2B8CBCCC#32
/-- The length of a row. -/
abbrev width : EReal := Ideal.ofBits .f32 0x45800000#32
/-- What the norm adds to the mean square. -/
abbrev eps : EReal := Ideal.ofBits .f32 0x358637BD#32

/-- A magnitude. -/
def mag (x : EReal) : EReal := max x (-x)
/-- The greatest of finitely many values. -/
def greatest {ι : Type} [Fintype ι] (f : ι → EReal) : EReal := Finset.univ.fold max least f
/-- The scale for a greatest magnitude. -/
def scale (m : EReal) : EReal := max (Ideal.div m top8) floor8
/-- A value clipped to the range of the eight-bit format. -/
def clip (x : EReal) : EReal := min top8 (max low8 x)
/-- The inverse root mean square of a row. -/
def rmsInv (r : Fin 4096 → EReal) : EReal := Ideal.rsqrt (Ideal.div (∑ k, r k * r k) width + eps)
/-- A row normed and weighted. -/
def normed (r n : Fin 4096 → EReal) (k : Fin 4096) : EReal := r k * rmsInv r * n k
/-- A row's scale in the reference: that of its normed entries. -/
def rowScale (r n : Fin 4096 → EReal) : EReal := scale (greatest fun k => mag (normed r n k))
/-- One layer as the reference computes it, from the residual row `r`, the norm weights `n`, the quantised weight `q` and its scale. -/
def layer (r n : Fin 4096 → EReal) (q : Fin 4096 → Fin 4096 → EReal) (s : EReal) (j : Fin 4096) : EReal :=
  (∑ k, clip (Ideal.div (normed r n k) (rowScale r n)) * q j k) * rowScale r n * s + r j

/-- The greatest magnitude in a weight. -/
def weightTop (W : Fin 4096 → Fin 4096 → EReal) : EReal := greatest fun p : Fin 4096 × Fin 4096 => mag (W p.1 p.2)
/-- A weight quantised at the scale for its greatest magnitude. -/
def quant (W : Fin 4096 → Fin 4096 → EReal) (j k : Fin 4096) : EReal := clip (Ideal.div (W j k) (scale (weightTop W)))
/-- One layer on a plain weight. -/
def stage (r n : Fin 4096 → EReal) (W : Fin 4096 → Fin 4096 → EReal) : Fin 4096 → EReal := layer r n (quant W) (scale (weightTop W))
/-- The rows between the second and the third layer. -/
def middle (x n0 n1 : Fin 4096 → EReal) (W1 W2 : Fin 4096 → Fin 4096 → EReal) : Fin 4096 → EReal :=
  stage (stage (fun k => max (x k) 0) n0 W1) n1 W2
/-- THE RESULT'S ROW: three layers on the rectified row, then the last norm. -/
def result (x n0 n1 n2 n3 : Fin 4096 → EReal) (W1 W2 W3 : Fin 4096 → Fin 4096 → EReal) : Fin 4096 → EReal :=
  normed (stage (middle x n0 n1 W1 W2) n2 W3) n3

/-- A row's scale in the kernel: the norm's factor taken out of the maximum. -/
def rowScaleK (r n : Fin 4096 → EReal) : EReal := scale (rmsInv r * greatest fun k => mag (r k * n k))
/-- One layer as the kernel computes it: the norm's factor and the scale joined in one quotient. -/
def layerK (r n : Fin 4096 → EReal) (q : Fin 4096 → Fin 4096 → EReal) (s : EReal) (j : Fin 4096) : EReal :=
  (∑ k, clip (r k * n k * Ideal.div (rmsInv r) (rowScaleK r n)) * q j k) * (rowScaleK r n * s) + r j

theorem least_eq : least = ⊥ := by simp [least, Ideal.ofBits, Ideal.ieee]

/-- A normal word without its sign bit is positive. -/
theorem word_pos (b : BitVec 32) (hs : (b.extractLsb' (8 + 23) 1 == 1#1) = false) (ht : (b.extractLsb' 23 8).toNat ≠ 2 ^ 8 - 1)
    (hz : (b.extractLsb' 23 8).toNat ≠ 0) : 0 < Ideal.ofBits .f32 b := by
  show 0 < Ideal.ieee 8 23 b
  simp only [Ideal.ieee, hs, if_neg ht, if_neg hz, Bool.false_eq_true, if_false, one_mul]
  rw [EReal.coe_pos]
  positivity

theorem floor8_pos : 0 < floor8 := word_pos _ (by decide) (by decide) (by decide)

theorem eps_pos : 0 < eps := word_pos _ (by decide) (by decide) (by decide)

theorem width_pos : 0 < width := word_pos _ (by decide) (by decide) (by decide)

theorem scale_pos (m : EReal) : 0 < scale m := lt_max_of_lt_right floor8_pos

/-- A quotient by something positive is a product. -/
theorem div_pos_eq {y : EReal} (x : EReal) (h : 0 < y) : Ideal.div x y = x * y⁻¹ := by
  simp [Ideal.div, h.ne']

theorem mag_nonneg (x : EReal) : 0 ≤ mag x := by
  rcases le_total 0 x with h | h
  · exact h.trans (le_max_left _ _)
  · exact (EReal.neg_nonneg.mpr h).trans (le_max_right _ _)

theorem sq_nonneg (x : EReal) : 0 ≤ x * x := by
  rcases le_total 0 x with h | h
  · exact mul_nonneg h h
  · rw [← neg_mul_neg]; exact mul_nonneg (EReal.neg_nonneg.mpr h) (EReal.neg_nonneg.mpr h)

theorem rsqrt_nonneg {x : EReal} (h : 0 ≤ x) : 0 ≤ Ideal.rsqrt x := by
  induction x using EReal.rec with
  | bot => simp at h
  | top => exact le_of_eq rfl
  | coe r =>
    have hr : 0 ≤ r := EReal.coe_nonneg.mp h
    show 0 ≤ (if r < 0 then (⊥ : EReal) else if r = 0 then ⊤ else ((Real.sqrt r)⁻¹ : ℝ))
    rw [if_neg (not_lt.mpr hr)]
    split
    · exact le_top
    · exact EReal.coe_nonneg.mpr (inv_nonneg.mpr (Real.sqrt_nonneg r))

theorem rmsInv_nonneg (r : Fin 4096 → EReal) : 0 ≤ rmsInv r := by
  refine rsqrt_nonneg (add_nonneg ?_ eps_pos.le)
  rw [div_pos_eq _ width_pos]
  exact mul_nonneg (Finset.sum_nonneg fun k _ => sq_nonneg _) (EReal.inv_nonneg_of_nonneg width_pos.le)

/-- A nonnegative factor leaves a magnitude. -/
theorem mag_mul {a : EReal} (h : 0 ≤ a) (x : EReal) : mag (a * x) = a * mag x := by
  rw [mag, mag, ← mul_neg]
  exact (Monotone.map_max fun x y hxy => mul_le_mul_of_nonneg_left hxy h).symm

/-- The greatest of values some of which exist and none of which is negative may as well start from zero. -/
theorem greatest_eq {ι : Type} [Fintype ι] [Nonempty ι] (f : ι → EReal) (h : ∀ i, 0 ≤ f i) : greatest f = Finset.univ.fold max 0 f := by
  refine le_antisymm ?_ ?_
  · rw [greatest, Finset.fold_max_le]
    exact ⟨by rw [least_eq]; exact bot_le, fun i hi => Finset.le_fold_max _ |>.mpr (.inr ⟨i, hi, le_rfl⟩)⟩
  · rw [Finset.fold_max_le]
    exact ⟨Finset.le_fold_max _ |>.mpr (.inr ⟨Classical.arbitrary ι, Finset.mem_univ _, h _⟩),
      fun i hi => Finset.le_fold_max _ |>.mpr (.inr ⟨i, hi, le_rfl⟩)⟩

/-- A nonnegative factor moves into a greatest magnitude. -/
theorem mul_greatest {ι : Type} [Fintype ι] [Nonempty ι] {a : EReal} (ha : 0 ≤ a) (f : ι → EReal) :
    a * greatest (fun i => mag (f i)) = greatest fun i => mag (a * f i) := by
  rw [greatest_eq _ fun i => mag_nonneg _, greatest_eq _ fun i => mag_nonneg _]
  have e := Finset.fold_hom (op := max) (op' := max) (b := 0) (f := fun i => mag (f i)) (s := (Finset.univ : Finset ι)) (m := fun x => a * x)
    fun x y => (Monotone.map_max fun x y hxy => mul_le_mul_of_nonneg_left hxy ha)
  rw [← e]
  simp only [mul_zero, mag_mul ha]

theorem normed_eq (r n : Fin 4096 → EReal) (k : Fin 4096) : normed r n k = rmsInv r * (r k * n k) := by
  rw [normed, mul_comm (r k), mul_assoc]

theorem rowScaleK_eq (r n : Fin 4096 → EReal) : rowScaleK r n = rowScale r n := by
  simp only [rowScaleK, rowScale, normed_eq]
  rw [mul_greatest (rmsInv_nonneg r)]

/-- THE LAYER: the kernel's form is the reference's, at every row, weight and scale. -/
theorem layerK_eq (r n : Fin 4096 → EReal) (q : Fin 4096 → Fin 4096 → EReal) (s : EReal) : layerK r n q s = layer r n q s := by
  funext j
  have hs : 0 < rowScale r n := scale_pos _
  simp only [layerK, layer, rowScaleK_eq, normed_eq, div_pos_eq _ hs, ← mul_assoc]
  congr 3
  refine Finset.sum_congr rfl fun k _ => ?_
  congr 2
  simp only [mul_assoc, mul_left_comm, mul_comm]

/-- Multiplying by the reciprocal of a scale is dividing by it. -/
theorem mul_recip (x m : EReal) : x * Ideal.div 1 (scale m) = Ideal.div x (scale m) :=
  Ideal.mul_one_div (scale_pos m).ne'

end Cert.Rows

end
-- ==== Proof.Value.Blocks.lean ====
/- What one point of each of the kernel's four calls computes, at an index: the row mathematics of its blocks. -/
module

public import proofs.«01_k».proof.Proof.Ideal.PrepRun
public import proofs.«01_k».proof.Proof.Ideal.FusedRun
public import proofs.«01_k».proof.Proof.Ideal.LastRun
public import proofs.«01_k».proof.Proof.Value.Rows
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen Idealize.ShloMosaic Cert.Rows

/-- A row of an array of rows of the model's width. -/
def rowOf {R : ℕ} (x : (⟨2, ![R, 4096]⟩ : Shape).Idx → EReal) (a : Fin R) (k : Fin 4096) : EReal := x (ix2 a k)

/-! ## The quantised weights -/

theorem scale1_at (m : Ideal .f32) (i : S1x1.Idx) : k0_pay5 (F := Ideal) m i = scale m := rfl
theorem scale2_at (m : Ideal .f32) (i : S1x1.Idx) : k0_pay8 (F := Ideal) m i = scale m := rfl
theorem scale3_at (m : Ideal .f32) (i : S1x1.Idx) : k2_pay3 (F := Ideal) m i = scale m := rfl

theorem quant1_at (m : Ideal .f32) (x : Vec Ideal S256x4096 .f32) (a : Fin 256) (b : Fin 4096) :
    k0_pay4 m x (ix2 a b) = clip (Ideal.div (x (ix2 a b)) (scale m)) := by
  rw [← mul_recip]; pointwise [k0_pay4, k0_pay3]; rfl
theorem quant2_at (m : Ideal .f32) (x : Vec Ideal S256x4096 .f32) (a : Fin 256) (b : Fin 4096) :
    k0_pay7 m x (ix2 a b) = clip (Ideal.div (x (ix2 a b)) (scale m)) := by
  rw [← mul_recip]; pointwise [k0_pay7, k0_pay6]; rfl
theorem quant3_at (m : Ideal .f32) (x : Vec Ideal S256x4096 .f32) (a : Fin 256) (b : Fin 4096) :
    k2_pay2 m x (ix2 a b) = clip (Ideal.div (x (ix2 a b)) (scale m)) := by
  rw [← mul_recip]; pointwise [k2_pay2, k2_pay1]; rfl

/-! ## A running greatest magnitude -/

/-- The greatest magnitude in a block of rows. -/
def blockTop {R : ℕ} (x : (⟨2, ![R, 4096]⟩ : Shape).Idx → EReal) : EReal := greatest fun p : Fin R × Fin 4096 => mag (x (ix2 p.1 p.2))

theorem step1_eq (i : grid0.Coords) (x : Vec Ideal S256x4096 .f32) (d : Ideal .f32) :
    k0_pay1 i x d = max (Scalar.select (Scalar.cmpi .eq (BitVec.ofNat 32 (i 1).val) 0#32) 0 d) (blockTop x) := by
  pointwise [k0_pay1]; rfl
theorem step2_eq (i : grid0.Coords) (x : Vec Ideal S256x4096 .f32) (d : Ideal .f32) :
    k0_pay2 i x d = max (Scalar.select (Scalar.cmpi .eq (BitVec.ofNat 32 (i 1).val) 0#32) 0 d) (blockTop x) := by
  pointwise [k0_pay2]; rfl
theorem step3_eq (i : grid1.Coords) (x : Vec Ideal S128x4096 .f32) (d : Ideal .f32) :
    k1_pay4 i x d = max (Scalar.select (Scalar.cmpi .eq (BitVec.ofNat 32 (i 0).val) 0#32) 0 d) (blockTop x) := by
  pointwise [k1_pay4]; rfl

/-! ## The two fused layers -/

section
variable (x : Vec Ideal S256x4096 .f32) (n0 : Vec Ideal S1x4096 .f32) (a : Fin 256)

/-- The rectified rows. -/
theorem relu_at (b : Fin 4096) : k1_pay6 x (ix2 a b) = max (x (ix2 a b)) 0 := by
  pointwise [k1_pay6]
theorem inv0_at (b : Fin 1) : k1_pay8 x (ix2 a b) = rmsInv (rowOf (k1_pay6 x) a) := by
  pointwise [k1_pay8]; rfl
theorem weighted0_at (b : Fin 4096) : k1_pay7 x n0 (ix2 a b) = rowOf (k1_pay6 x) a b * rowOf n0 0 b := by
  pointwise [k1_pay7]; rfl
theorem rawScale0_at (b : Fin 1) : k1_pay9 x n0 (ix2 a b)
    = Ideal.div (rmsInv (rowOf (k1_pay6 x) a) * greatest fun k => mag (rowOf (k1_pay6 x) a k * rowOf n0 0 k)) top8 := by
  pointwise [k1_pay9]; simp only [inv0_at, weighted0_at]; rfl
theorem rowScale0_at (b : Fin 1) : k1_pay11 (k1_pay9 x n0) (k1_pay10 (F := Ideal)) (ix2 a b) = rowScaleK (rowOf (k1_pay6 x) a) (rowOf n0 0) := by
  pointwise [k1_pay11, k1_pay10]; simp only [rawScale0_at]; rfl

theorem mid_at (q : Vec Ideal S4096x4096 .fp8e4m3) (b : Fin 4096) :
    midOut x n0 q (ix2 a b) = ∑ k, clip (rowOf (k1_pay6 x) a k * rowOf n0 0 k * Ideal.div (rmsInv (rowOf (k1_pay6 x) a)) (rowScaleK (rowOf (k1_pay6 x) a) (rowOf n0 0))) * rowOf q b k := by
  unfold midOut
  pointwise [k1_pay12]; simp only [inv0_at, weighted0_at, rowScale0_at]; rfl

theorem layer0_at (q : Vec Ideal S4096x4096 .fp8e4m3) (s : Ideal .f32) (b : Fin 4096) :
    k1_pay13 (k1_pay6 x) (k1_pay9 x n0) (k1_pay10 (F := Ideal)) (midOut x n0 q) s (ix2 a b)
      = layerK (rowOf (k1_pay6 x) a) (rowOf n0 0) (rowOf q) s b := by
  pointwise [k1_pay13]; simp only [mid_at, rowScale0_at]; rfl
end

section
variable (r : FVec Ideal S256x4096 .f32) (u v : FVec Ideal S256x1 .f32) (o : Vec Ideal S256x4096 .f32) (s0 : Ideal .f32) (n1 : Vec Ideal S1x4096 .f32)
  (a : Fin 256)

theorem inv1_at (b : Fin 1) : k1_pay15 r u v o s0 (ix2 a b) = rmsInv (rowOf (k1_pay13 r u v o s0) a) := by
  pointwise [k1_pay15]; rfl
theorem weighted1_at (b : Fin 4096) : k1_pay14 r u v o s0 n1 (ix2 a b) = rowOf (k1_pay13 r u v o s0) a b * rowOf n1 0 b := by
  pointwise [k1_pay14]; rfl
theorem rawScale1_at (b : Fin 1) : k1_pay16 r u v o s0 n1 (ix2 a b)
    = rmsInv (rowOf (k1_pay13 r u v o s0) a) * greatest fun k => mag (rowOf (k1_pay13 r u v o s0) a k * rowOf n1 0 k) := by
  pointwise [k1_pay16]; simp only [inv1_at, weighted1_at]; rfl
theorem rowScale1_at (b : Fin 1) : k1_pay1 (k1_pay16 r u v o s0 n1) (k1_pay17 (F := Ideal)) (ix2 a b)
    = rowScaleK (rowOf (k1_pay13 r u v o s0) a) (rowOf n1 0) := by
  pointwise [k1_pay1, k1_pay17]; simp only [rawScale1_at]; rfl
theorem out1_at (q : Vec Ideal S4096x4096 .fp8e4m3) (b : Fin 4096) :
    k1_pay2 (k1_pay14 r u v o s0 n1) (k1_pay15 r u v o s0) (k1_pay16 r u v o s0 n1) (k1_pay17 (F := Ideal)) q (ix2 a b)
      = ∑ k, clip (rowOf (k1_pay13 r u v o s0) a k * rowOf n1 0 k * Ideal.div (rmsInv (rowOf (k1_pay13 r u v o s0) a))
          (rowScaleK (rowOf (k1_pay13 r u v o s0) a) (rowOf n1 0))) * rowOf q b k := by
  pointwise [k1_pay2]; simp only [inv1_at, weighted1_at, rowScale1_at]; rfl
theorem layer1_at (q : Vec Ideal S4096x4096 .fp8e4m3) (s : Ideal .f32) (b : Fin 4096) :
    k1_pay3 (k1_pay13 r u v o s0) (k1_pay16 r u v o s0 n1) (k1_pay17 (F := Ideal))
        (k1_pay2 (k1_pay14 r u v o s0 n1) (k1_pay15 r u v o s0) (k1_pay16 r u v o s0 n1) k1_pay17 q) s (ix2 a b)
      = layerK (rowOf (k1_pay13 r u v o s0) a) (rowOf n1 0) (rowOf q) s b := by
  pointwise [k1_pay3]; simp only [out1_at, rowScale1_at]; rfl
end

/-- A point of the fused call: two layers on each of its rows. -/
theorem fused_at (x : Vec Ideal S256x4096 .f32) (n0 n1 : Vec Ideal S1x4096 .f32) (q1 q2 : Vec Ideal S4096x4096 .fp8e4m3) (s0 s1 : Ideal .f32)
    (a : Fin 256) (b : Fin 4096) :
    fusedOut x n0 n1 q1 q2 s0 s1 (ix2 a b)
      = layer (layer (fun k => max (rowOf x a k) 0) (rowOf n0 0) (rowOf q1) s0) (rowOf n1 0) (rowOf q2) s1 b := by
  unfold fusedOut
  rw [layer1_at, layerK_eq]
  congr 1
  refine (funext fun k => layer0_at x n0 a q1 s0 k).trans ?_
  rw [layerK_eq, show rowOf (k1_pay6 x) a = _ from funext fun k => relu_at x a k]
  rfl

/-! ## The last layer and the last norm -/

section
variable (r : Vec Ideal S512x4096 .f32) (n : Vec Ideal S1x4096 .f32) (a : Fin 512)

theorem plain_at (b : Fin 4096) : k3_pay2 r (ix2 a b) = rowOf r a b := by
  pointwise [k3_pay2]; rfl
theorem inv2_at (b : Fin 1) : k3_pay4 r (ix2 a b) = rmsInv (rowOf r a) := by
  pointwise [k3_pay4]; simp only [plain_at]; rfl
theorem weighted2_at (b : Fin 4096) : k3_pay3 r n (ix2 a b) = rowOf r a b * rowOf n 0 b := by
  pointwise [k3_pay3]; simp only [plain_at]; rfl
theorem rowScale2_at (b : Fin 1) : k3_pay5 r n (ix2 a b) = rowScaleK (rowOf r a) (rowOf n 0) := by
  pointwise [k3_pay5]; simp only [inv2_at, weighted2_at]; rfl
theorem out2_at (q : Vec Ideal S4096x4096 .fp8e4m3) (b : Fin 4096) :
    k3_pay6 r n q (ix2 a b) = ∑ k, clip (rowOf r a k * rowOf n 0 k * Ideal.div (rmsInv (rowOf r a)) (rowScaleK (rowOf r a) (rowOf n 0))) * rowOf q b k := by
  pointwise [k3_pay6]; simp only [inv2_at, weighted2_at, rowScale2_at]; rfl
theorem normed_at (y : FVec Ideal S512x4096 .f32) (u : FVec Ideal S512x1 .f32) (o : FVec Ideal S512x4096 .f32) (s : Ideal .f32) (b : Fin 4096) :
    k3_pay1 y u o s n (ix2 a b) = normed (fun j => o (ix2 a j) * (u (ix2 a 0) * s) + y (ix2 a j)) (rowOf n 0) b := by
  pointwise [k3_pay1]; rfl
end

theorem rowA_at (n : Vec Ideal S2x4096 .f32) : rowOf (rowA n) 0 = rowOf n 0 := by
  funext k; show rowA n (ix2 0 k) = n (ix2 0 k); unfold rowA; exact congrArg n (by blk_ext)
theorem rowB_at (n : Vec Ideal S2x4096 .f32) : rowOf (rowB n) 0 = rowOf n 1 := by
  funext k; show rowB n (ix2 0 k) = n (ix2 1 k); unfold rowB; exact congrArg n (by blk_ext)

/-- A point of the last call: the third layer on each of its rows, then the last norm. -/
theorem last_at (r : Vec Ideal S512x4096 .f32) (n : Vec Ideal S2x4096 .f32) (q : Vec Ideal S4096x4096 .fp8e4m3) (s : Ideal .f32) (a : Fin 512)
    (b : Fin 4096) : lastOut r n q s (ix2 a b) = normed (layer (rowOf r a) (rowOf n 0) (rowOf q) s) (rowOf n 1) b := by
  unfold lastOut
  rw [normed_at, rowB_at, ← layerK_eq, ← rowA_at]
  congr 1
  funext j
  rw [plain_at, rowScale2_at]
  congr 2
  pointwise [k3_pay7]; exact out2_at r (rowA n) a q j

end Cert.KernelIdeal.Own

end
-- ==== Proof.Value.Tops.lean ====
/- The running greatest magnitudes: after the last block of a weight the scratch holds the greatest magnitude in the weight. -/
module

public import proofs.«01_k».proof.Proof.Ideal.Prep
public import proofs.«01_k».proof.Proof.Ideal.Fused
public import proofs.«01_k».proof.Proof.Value.Blocks

@[expose] public section

set_option maxRecDepth 16384

noncomputable section

namespace Cert.KernelIdeal.Own

open Cert.KernelIdeal Cert.KernelIdeal.Gen Idealize.ShloMosaic Idealize.ShloMosaic.TcCoe Cert.Rows
open Idealize.ShloMosaic.Pipeline (Dat Cfg Window)

/-- A greatest value is bounded where every value is. -/
theorem greatest_le {ι : Type} [Fintype ι] (f : ι → EReal) (u : EReal) : greatest f ≤ u ↔ ∀ i, f i ≤ u := by
  rw [greatest, Finset.fold_max_le, least_eq]
  exact ⟨fun h i => h.2 i (Finset.mem_univ i), fun h => ⟨bot_le, fun i _ => h i⟩⟩

/-- A block's greatest magnitude is not negative. -/
theorem blockTop_nonneg {R : ℕ} [NeZero R] (x : (⟨2, ![R, 4096]⟩ : Shape).Idx → EReal) : 0 ≤ blockTop x :=
  (mag_nonneg (x (ix2 0 0))).trans ((greatest_le (fun p : Fin R × Fin 4096 => mag (x (ix2 p.1 p.2))) _).mp le_rfl (0, 0))

/-- The choice made at the first point of a pass. -/
theorem select_first {n : ℕ} (h : n < 2 ^ 32) (d : EReal) :
    (Scalar.select (Scalar.cmpi .eq (BitVec.ofNat 32 n) 0#32) 0 d : EReal) = if n = 0 then 0 else d := by
  by_cases hn : n = 0
  · subst hn; rfl
  · have : ¬ (BitVec.ofNat 32 n = 0#32) := fun e => hn (by
      have := congrArg BitVec.toNat e
      rwa [BitVec.toNat_ofNat, Nat.mod_eq_of_lt h] at this)
    simp [Scalar.select, Scalar.cmpi, IntOp.cmpi, hn, beq_eq_false_iff_ne.mpr this]

variable (V : (c : Dev nD) → (b : Ref sig .tc) → Buf (Elt Ideal) ((c : Thread nD τ).loc b)) (c : Dev nD)

/-- The first weight as the region finds it. -/
def weight1 (j k : Fin 4096) : EReal := (V c main_arg5 : S4096x4096.Idx → EReal) (ix2 j k)
/-- The second weight. -/
def weight2 (j k : Fin 4096) : EReal := (V c main_arg6 : S4096x4096.Idx → EReal) (ix2 j k)
/-- The third weight. -/
def weight3 (j k : Fin 4096) : EReal := (V c main_arg7 : S4096x4096.Idx → EReal) (ix2 j k)

theorem index0 : ∀ t : Fin cfg0.N, win0_0.index t = ![t.val % 16, 0] ∧ win0_1.index t = ![t.val % 16, 0] ∧ t.val < 32 :=
  (by decide +kernel : ∀ t : Fin grid0.N, _)
theorem index1 : ∀ t : Fin cfg1.N, win1_6.index t = ![t.val, 0] ∧ t.val < 32 := (by decide +kernel : ∀ t : Fin grid1.N, _)

theorem block1_at (t : Fin cfg0.N) (a : Fin 256) (b : Fin 4096) (h : t.val % 16 * 256 + a.val < 4096) :
    (blk0 V c 0 t : S256x4096.Idx → EReal) (ix2 a b) = weight1 V c ⟨t.val % 16 * 256 + a.val, h⟩ b := by
  unfold weight1; blk_ext [blk0, index0 t]
theorem block2_at (t : Fin cfg0.N) (a : Fin 256) (b : Fin 4096) (h : t.val % 16 * 256 + a.val < 4096) :
    (blk0 V c 1 t : S256x4096.Idx → EReal) (ix2 a b) = weight2 V c ⟨t.val % 16 * 256 + a.val, h⟩ b := by
  unfold weight2; blk_ext [blk0, index0 t]
theorem block3_at (t : Fin cfg1.N) (a : Fin 128) (b : Fin 4096) (h : t.val * 128 + a.val < 4096) :
    (blk1 V c 6 t : S128x4096.Idx → EReal) (ix2 a b) = weight3 V c ⟨t.val * 128 + a.val, h⟩ b := by
  unfold weight3; blk_ext [blk1, index1 t]

theorem maxStep_0 (i : grid0.Coords) (x y : Vec Ideal S256x4096 .f32) (d : Vec Ideal S2 .f32) :
    maxStep i x y d cell0 = max (if (i 1).val = 0 then 0 else d cell0) (blockTop x) := by
  unfold maxStep
  rw [if_pos (by rfl), step1_eq, select_first ((i 1).isLt.trans (by decide))]
theorem maxStep_1 (i : grid0.Coords) (x y : Vec Ideal S256x4096 .f32) (d : Vec Ideal S2 .f32) :
    maxStep i x y d cell1 = max (if (i 1).val = 0 then 0 else d cell1) (blockTop y) := by
  unfold maxStep
  rw [if_neg (by decide), step2_eq, select_first ((i 1).isLt.trans (by decide))]

theorem held0_0 (n : ℕ) (h : n < cfg0.N) (hn : n < 16) (u : EReal) :
    @LE.le EReal _ (held0 (F := Ideal) V c n h cell0) u ↔ 0 ≤ u ∧ ∀ (s : ℕ) (hs : s ≤ n), blockTop (blk0 V c 0 ⟨s, by omega⟩ : S256x4096.Idx → EReal) ≤ u := by
  induction n with
  | zero =>
    show @LE.le EReal _ (maxStep (F := Ideal) _ _ _ _ cell0) u ↔ _
    rw [maxStep_0, if_pos (show (grid0.coords ⟨0, h⟩ 1).val = 0 from coord0_1 _), max_le_iff]
    refine and_congr Iff.rfl ⟨fun H s hs => ?_, fun H => H 0 le_rfl⟩
    obtain rfl : s = 0 := by omega
    exact H
  | succ n ih =>
    have e : held0 V c (n + 1) h = maxStep (grid0.coords ⟨n + 1, h⟩) (blk0 V c 0 ⟨n + 1, h⟩) (blk0 V c 1 ⟨n + 1, h⟩) (held0 V c n (by omega)) :=
      if_pos hn
    rw [e, maxStep_0, if_neg (by rw [coord0_1]; show ¬ (n + 1) % 16 = 0; omega), max_le_iff, ih (by omega) (by omega), and_assoc]
    refine and_congr Iff.rfl ⟨fun H s hs => ?_, fun H => ⟨fun s hs => H s (by omega), H (n + 1) le_rfl⟩⟩
    rcases Nat.lt_or_ge n s with hlt | hge
    · obtain rfl : s = n + 1 := by omega
      exact H.2
    · exact H.1 s hge
theorem held0_1 (n : ℕ) (h : n < cfg0.N) (hn : n < 16) (u : EReal) :
    @LE.le EReal _ (held0 (F := Ideal) V c n h cell1) u ↔ 0 ≤ u ∧ ∀ (s : ℕ) (hs : s ≤ n), blockTop (blk0 V c 1 ⟨s, by omega⟩ : S256x4096.Idx → EReal) ≤ u := by
  induction n with
  | zero =>
    show @LE.le EReal _ (maxStep (F := Ideal) _ _ _ _ cell1) u ↔ _
    rw [maxStep_1, if_pos (show (grid0.coords ⟨0, h⟩ 1).val = 0 from coord0_1 _), max_le_iff]
    refine and_congr Iff.rfl ⟨fun H s hs => ?_, fun H => H 0 le_rfl⟩
    obtain rfl : s = 0 := by omega
    exact H
  | succ n ih =>
    have e : held0 V c (n + 1) h = maxStep (grid0.coords ⟨n + 1, h⟩) (blk0 V c 0 ⟨n + 1, h⟩) (blk0 V c 1 ⟨n + 1, h⟩) (held0 V c n (by omega)) :=
      if_pos hn
    rw [e, maxStep_1, if_neg (by rw [coord0_1]; show ¬ (n + 1) % 16 = 0; omega), max_le_iff, ih (by omega) (by omega), and_assoc]
    refine and_congr Iff.rfl ⟨fun H s hs => ?_, fun H => ⟨fun s hs => H s (by omega), H (n + 1) le_rfl⟩⟩
    rcases Nat.lt_or_ge n s with hlt | hge
    · obtain rfl : s = n + 1 := by omega
      exact H.2
    · exact H.1 s hge

/-- The second phase keeps what the first has found. -/
theorem held0_late (n : ℕ) (h : n < cfg0.N) (hn : 15 ≤ n) (h15 : 15 < cfg0.N) : held0 V c n h = held0 V c 15 h15 := by
  induction n with
  | zero => omega
  | succ n ih =>
    rcases Nat.lt_or_ge n 15 with hlt | hge
    · obtain rfl : n = 14 := by omega
      rfl
    · exact (if_neg (by omega)).trans (ih (by omega) hge)

/-- A weight is bounded where its blocks of rows are. -/
theorem weightTop_le {T R : ℕ} [NeZero R] (hT : T * R = 4096) (hT0 : 0 < T) (W : Fin 4096 → Fin 4096 → EReal)
    (x : (s : ℕ) → s < T → (⟨2, ![R, 4096]⟩ : Shape).Idx → EReal)
    (hx : ∀ (s : ℕ) (hs : s < T) (a : Fin R) (b : Fin 4096) (h : s * R + a.val < 4096), x s hs (ix2 a b) = W ⟨s * R + a.val, h⟩ b) (u : EReal) :
    weightTop W ≤ u ↔ 0 ≤ u ∧ ∀ (s : ℕ) (hs : s < T), blockTop (x s hs) ≤ u := by
  have hlt (s : ℕ) (hs : s < T) (a : Fin R) : s * R + a.val < 4096 := by
    have := Nat.mul_le_mul_right R (Nat.succ_le_of_lt hs); have := a.isLt; rw [Nat.succ_mul] at *; omega
  unfold weightTop
  rw [greatest_le]
  constructor
  · intro H
    refine ⟨(mag_nonneg _).trans (H (0, 0)), fun s hs => (greatest_le _ _).mpr fun p => ?_⟩
    rw [hx s hs p.1 p.2 (hlt s hs p.1)]
    exact H (_, _)
  · rintro ⟨-, H⟩ ⟨j, k⟩
    have hR : 0 < R := NeZero.pos R
    have hs : j.val / R < T := Nat.div_lt_of_lt_mul (by rw [Nat.mul_comm, hT]; exact j.isLt)
    have := (greatest_le _ _).mp (H (j.val / R) hs) (⟨j.val % R, Nat.mod_lt _ hR⟩, k)
    rw [hx _ hs _ _ (hlt _ hs _)] at this
    have e : (⟨j.val / R * R + (⟨j.val % R, Nat.mod_lt _ hR⟩ : Fin R).val, hlt _ hs _⟩ : Fin 4096) = j :=
      Fin.ext (Nat.div_add_mod' _ _)
    rw [e] at this
    exact this

/-- From the last point of the first phase on the scratch holds the first weight's greatest magnitude. -/
theorem top1 (n : ℕ) (h : n < cfg0.N) (hn : 15 ≤ n) : held0 (F := Ideal) V c n h cell0 = weightTop (weight1 V c) := by
  have hN : cfg0.N = 32 := N_0
  rw [held0_late V c n h hn (by omega)]
  refine eq_of_forall_ge_iff fun u => ?_
  rw [held0_0 V c 15 _ (by omega), weightTop_le (T := 16) (R := 256) rfl (by omega) (weight1 V c) (fun s hs => blk0 V c 0 ⟨s, by omega⟩)
    fun s hs a b h => ?_]
  · exact and_congr Iff.rfl ⟨fun H s hs => H s (by omega), fun H s hs => H s (by omega)⟩
  · refine (block1_at V c ⟨s, by omega⟩ a b (by show s % 16 * 256 + _ < _; rwa [Nat.mod_eq_of_lt hs])).trans ?_
    congr 1; exact Fin.ext (by show s % 16 * 256 + _ = _; rw [Nat.mod_eq_of_lt hs])
/-- And the second's. -/
theorem top2 (n : ℕ) (h : n < cfg0.N) (hn : 15 ≤ n) : held0 (F := Ideal) V c n h cell1 = weightTop (weight2 V c) := by
  have hN : cfg0.N = 32 := N_0
  rw [held0_late V c n h hn (by omega)]
  refine eq_of_forall_ge_iff fun u => ?_
  rw [held0_1 V c 15 _ (by omega), weightTop_le (T := 16) (R := 256) rfl (by omega) (weight2 V c) (fun s hs => blk0 V c 1 ⟨s, by omega⟩)
    fun s hs a b h => ?_]
  · exact and_congr Iff.rfl ⟨fun H s hs => H s (by omega), fun H s hs => H s (by omega)⟩
  · refine (block2_at V c ⟨s, by omega⟩ a b (by show s % 16 * 256 + _ < _; rwa [Nat.mod_eq_of_lt hs])).trans ?_
    congr 1; exact Fin.ext (by show s % 16 * 256 + _ = _; rw [Nat.mod_eq_of_lt hs])

theorem held1_le (n : ℕ) (h : n < cfg1.N) (u : EReal) :
    @LE.le EReal _ (held1 (F := Ideal) V c n h cellM) u ↔ 0 ≤ u ∧ ∀ (s : ℕ) (hs : s ≤ n), blockTop (blk1 V c 6 ⟨s, by omega⟩ : S128x4096.Idx → EReal) ≤ u := by
  have hN : cfg1.N = 32 := N_1
  have hstep (k : ℕ) (hk : k < cfg1.N) (d : Ideal .f32) : k1_pay4 (F := Ideal) (grid1.coords ⟨k, hk⟩) (blk1 V c 6 ⟨k, hk⟩) d
      = max (if k = 0 then 0 else d) (blockTop (blk1 V c 6 ⟨k, hk⟩ : S128x4096.Idx → EReal)) := by
    rw [step3_eq, coord1, select_first (by show k < _; omega)]
  induction n with
  | zero =>
    show @LE.le EReal _ (k1_pay4 (F := Ideal) _ _ _) u ↔ _
    rw [hstep, if_pos rfl, max_le_iff]
    refine and_congr Iff.rfl ⟨fun H s hs => ?_, fun H => H 0 le_rfl⟩
    obtain rfl : s = 0 := by omega
    exact H
  | succ n ih =>
    show @LE.le EReal _ (k1_pay4 (F := Ideal) _ _ (held1 (F := Ideal) V c n (Nat.lt_of_succ_lt h) cellM)) u ↔ _
    rw [hstep, if_neg (Nat.succ_ne_zero n), max_le_iff]
    refine (and_congr (ih (Nat.lt_of_succ_lt h)) Iff.rfl).trans ?_
    rw [and_assoc]
    refine and_congr Iff.rfl ⟨fun H s hs => ?_, fun H => ⟨fun s hs => H s (by omega), H (n + 1) le_rfl⟩⟩
    rcases Nat.lt_or_ge n s with hlt | hge
    · obtain rfl : s = n + 1 := by omega
      exact H.2
    · exact H.1 s hge

/-- At the last point of the fused call the scratch holds the third weight's greatest magnitude. -/
theorem top3 (n : ℕ) (h : n < cfg1.N) (hn : n = 31) : held1 (F := Ideal) V c n h cellM = weightTop (weight3 V c) := by
  subst hn
  have hN : cfg1.N = 32 := N_1
  refine eq_of_forall_ge_iff fun u => ?_
  rw [held1_le V c 31, weightTop_le (T := 32) (R := 128) rfl (by omega) (weight3 V c) (fun s hs => blk1 V c 6 ⟨s, by omega⟩)
    fun s hs a b h => block3_at V c ⟨s, by omega⟩ a b h]
  exact and_congr Iff.rfl ⟨fun H s hs => H s (by omega), fun H s hs => H s (by omega)⟩

end Cert.KernelIdeal.Own

end
-- ==== Proof.Value.Arrays.lean ====
/- What each call leaves in its result arrays, over the buffers it finds. -/
module

public import proofs.«01_k».proof.Proof.Ideal.Third
public import proofs.«01_k».proof.Proof.Ideal.Last
public import proofs.«01_k».proof.Proof.Value.Tops

@[expose] public section

set_option maxRecDepth 16384

noncomputable section

namespace Cert.KernelIdeal.Own

open Cert.KernelIdeal Cert.KernelIdeal.Gen Idealize.ShloMosaic Idealize.ShloMosaic.TcCoe Cert.Rows
open Idealize.ShloMosaic.Pipeline (Dat Cfg Window)

variable (V : (c : Dev nD) → (b : Ref sig .tc) → Buf (Elt Ideal) ((c : Thread nD τ).loc b)) (c : Dev nD)

theorem where0 : ∀ t : Fin cfg0.N, win0_0.index t = ![t.val % 16, 0] ∧ win0_1.index t = ![t.val % 16, 0]
    ∧ (¬ t.val < 16 → win0_2.index t = ![t.val % 16, 0] ∧ win0_3.index t = ![t.val % 16, 0]) := (by decide +kernel : ∀ t : Fin grid0.N, _)
theorem where1 : ∀ t : Fin cfg1.N, win1_0.index t = ![t.val, 0] ∧ win1_1.index t = ![0, 0] ∧ win1_2.index t = ![0, 0] ∧ win1_3.index t = ![0, 0]
    ∧ win1_4.index t = ![0, 0] ∧ win1_5.index t = ![0, 0] ∧ win1_7.index t = ![t.val, 0] ∧ t.val < 32 := (by decide +kernel : ∀ t : Fin grid1.N, _)
theorem where2 : ∀ t : Fin cfg2.N, win2_0.index t = ![t.val, 0] ∧ win2_1.index t = ![0, 0] ∧ win2_2.index t = ![t.val, 0] ∧ t.val < 16 :=
  (by decide +kernel : ∀ t : Fin grid2.N, _)
theorem where3 : ∀ t : Fin cfg3.N, win3_0.index t = ![t.val, 0] ∧ win3_1.index t = ![0, 0] ∧ win3_2.index t = ![0, 0] ∧ win3_3.index t = ![0, 0]
    ∧ win3_4.index t = ![t.val, 0] ∧ t.val < 16 := (by decide +kernel : ∀ t : Fin grid3.N, _)

/-! ## The first two weights -/

/-- The first weight, quantised. -/
theorem cast1 : (dat0 V c).arrAt 2 cfg0.N = fun i : S4096x4096.Idx => quant (weight1 V c) (i 0) (i 1) := by
  refine (dat0 V c).arrAt_eq_of_covers 2 _ (by decide +kernel) fun t hf y => ?_
  have ht : ¬ t.val < 16 := fun h => by have := keep0_2 t h; rw [this] at hf; exact Bool.noConfusion hf
  blk_simp
  rw [after0_2, top1 V c t.val t.isLt (by omega)]
  idx_vars y
  refine (quant1_at _ _ _ _).trans ?_
  unfold quant
  congr 2
  unfold weight1
  blk_ext [blk0, (where0 t).1, ((where0 t).2.2 ht).1]
/-- The second weight, quantised. -/
theorem cast2 : (dat0 V c).arrAt 3 cfg0.N = fun i : S4096x4096.Idx => quant (weight2 V c) (i 0) (i 1) := by
  refine (dat0 V c).arrAt_eq_of_covers 3 _ (by decide +kernel) fun t hf y => ?_
  have ht : ¬ t.val < 16 := fun h => by have := keep0_3 t h; rw [this] at hf; exact Bool.noConfusion hf
  blk_simp
  rw [after0_3, top2 V c t.val t.isLt (by omega)]
  idx_vars y
  refine (quant2_at _ _ _ _).trans ?_
  unfold quant
  congr 2
  unfold weight2
  blk_ext [blk0, (where0 t).2.1, ((where0 t).2.2 ht).2]
/-- The first weight's scale. -/
theorem unit1 : (dat0 V c).arrAt 4 cfg0.N = fun _ : S1x1.Idx => scale (weightTop (weight1 V c)) := by
  refine (dat0 V c).arrAt_eq_of_after_last 4 ⟨31, by decide⟩ (by decide +kernel) _ fun j => ?_
  blk_simp
  refine (congrFun (after0_4 V c ⟨31, by decide⟩) _).trans ((scale1_at _ _).trans ?_)
  exact congrArg scale (top1 V c 31 _ (by omega))
/-- The second weight's scale. -/
theorem unit2 : (dat0 V c).arrAt 5 cfg0.N = fun _ : S1x1.Idx => scale (weightTop (weight2 V c)) := by
  refine (dat0 V c).arrAt_eq_of_after_last 5 ⟨31, by decide⟩ (by decide +kernel) _ fun j => ?_
  blk_simp
  refine (congrFun (after0_5 V c ⟨31, by decide⟩) _).trans ((scale2_at _ _).trans ?_)
  exact congrArg scale (top2 V c 31 _ (by omega))

/-! ## The two fused layers -/

theorem fused_congr {r r' n0 n1 : Fin 4096 → EReal} {q1 q2 : Fin 4096 → Fin 4096 → EReal} {s0 s0' s1 s1' : EReal} {j j' : Fin 4096}
    (hr : r = r') (h0 : s0 = s0') (h1 : s1 = s1') (hj : j = j') :
    layer (layer (fun k => max (r k) 0) n0 q1 s0) n1 q2 s1 j = layer (layer (fun k => max (r' k) 0) n0 q1 s0') n1 q2 s1' j' := by
  rw [hr, h0, h1, hj]

/-- The residual after two layers, from the quantised weights and their scales. -/
theorem fused : (dat1 V c).arrAt 7 cfg1.N = fun i : S8192x4096.Idx =>
    layer (layer (fun k => max ((V c main_arg0 : S8192x4096.Idx → EReal) (ix2 (i 0) k)) 0) (rowOf (V c main_v2 : S1x4096.Idx → EReal) 0)
        (rowOf (V c main_v0_0 : S4096x4096.Idx → EReal)) ((V c main_v1 : S1x2.Idx → EReal) (ix2 0 0)))
      (rowOf (V c main_v3 : S1x4096.Idx → EReal) 0) (rowOf (V c main_v0_1 : S4096x4096.Idx → EReal)) ((V c main_v1 : S1x2.Idx → EReal) (ix2 0 1)) (i 1) := by
  refine (dat1 V c).arrAt_eq_of_covers 7 _ (by decide +kernel) fun t hf y => ?_
  blk_simp
  rw [after1_7]
  idx_vars y
  refine (fused_at _ _ _ _ _ _ _ _ _).trans ?_
  have e1 : (blk1 V c 1 t : S1x4096.Idx → EReal) = V c main_v2 := by blk_ext! [blk1, where1 t]
  have e2 : (blk1 V c 2 t : S1x4096.Idx → EReal) = V c main_v3 := by blk_ext! [blk1, where1 t]
  have e3 : (blk1 V c 3 t : S4096x4096.Idx → EReal) = V c main_v0_0 := by blk_ext! [blk1, where1 t]
  have e4 : (blk1 V c 4 t : S4096x4096.Idx → EReal) = V c main_v0_1 := by blk_ext! [blk1, where1 t]
  have e5 : (blk1 V c 5 t : S1x2.Idx → EReal) cellP = (V c main_v1 : S1x2.Idx → EReal) (ix2 0 0) := by unfold cellP; blk_ext [blk1, where1 t]
  have e6 : (blk1 V c 5 t : S1x2.Idx → EReal) cellQ = (V c main_v1 : S1x2.Idx → EReal) (ix2 0 1) := by unfold cellQ; blk_ext [blk1, where1 t]
  rw [e1, e2, e3, e4]
  refine fused_congr (funext fun k => ?_) e5 e6 (Fin.ext ?_)
  · unfold rowOf; blk_ext [blk1, where1 t]
  · blk_simp [where1 t]

/-- At the last point the greatest magnitude in the third weight is written. -/
theorem most3_last (t : Fin cfg1.N) (ht : t.val = 31) : (dat1 V c).after 8 t = fun _ => weightTop (weight3 V c) := by
  rw [after1_8, top3 V c t.val t.isLt ht]
theorem most3_whole (t : Fin cfg1.N) (ht : t.val = 31) : (cfg1.win 8).WholeAt t := by
  obtain ⟨n, hn⟩ := t
  obtain rfl : n = 31 := ht
  exact (by decide +kernel : (cfg1.win 8).WholeAt ⟨31, by decide⟩)
theorem most3_array (t : Fin cfg1.N) (ht : t.val = 31) : (dat1 V c).arrAt 8 cfg1.N = fun _ : S1x1.Idx => weightTop (weight3 V c) := by
  refine (dat1 V c).arrAt_eq_of_after_last 8 t (most3_whole t ht) _ fun j => ?_
  rw [most3_last V c t ht]
  generalize weightTop (weight3 V c) = w
  rfl
/-- The greatest magnitude in the third weight. -/
theorem most3 : (dat1 V c).arrAt 8 cfg1.N = fun _ : S1x1.Idx => weightTop (weight3 V c) :=
  most3_array V c ⟨31, by decide⟩ rfl

/-! ## The third weight -/

/-- The third weight, quantised at the scale for the magnitude the region finds. -/
theorem cast3 : (dat2 V c).arrAt 2 cfg2.N
    = fun i : S4096x4096.Idx => clip (Ideal.div (weight3 V c (i 0) (i 1)) (scale ((V c main_v4_1 : S1x1.Idx → EReal) (ix2 0 0)))) := by
  refine (dat2 V c).arrAt_eq_of_covers 2 _ (by decide +kernel) fun t hf y => ?_
  blk_simp
  rw [after2_2]
  idx_vars y
  refine (quant3_at _ _ _ _).trans ?_
  have e1 : (blk2 V c 1 t : S1x1.Idx → EReal) cellU = (V c main_v4_1 : S1x1.Idx → EReal) (ix2 0 0) := by unfold cellU; blk_ext [blk2, where2 t]
  rw [e1]
  congr 2
  unfold weight3
  blk_ext [blk2, where2 t]
theorem unit3_point (t : Fin cfg2.N) : (dat2 V c).after 3 t = fun _ => scale ((V c main_v4_1 : S1x1.Idx → EReal) (ix2 0 0)) := by
  refine (after2_3 V c t).trans (funext fun j => (scale3_at _ _).trans (congrArg scale ?_))
  unfold cellU; blk_ext [blk2, where2 t]
/-- Its scale. -/
theorem unit3 : (dat2 V c).arrAt 3 cfg2.N = fun _ : S1x1.Idx => scale ((V c main_v4_1 : S1x1.Idx → EReal) (ix2 0 0)) := by
  refine (dat2 V c).arrAt_eq_of_after_last 3 ⟨15, by decide⟩ (by decide +kernel) _ fun j => ?_
  blk_simp
  exact congrFun (unit3_point V c _) _

/-! ## The last layer -/

theorem last_congr {r r' n0 n1 : Fin 4096 → EReal} {q : Fin 4096 → Fin 4096 → EReal} {s s' : EReal} {j j' : Fin 4096}
    (hr : r = r') (hs : s = s') (hj : j = j') : normed (layer r n0 q s) n1 j = normed (layer r' n0 q s') n1 j' := by
  rw [hr, hs, hj]

/-- THE RESULT ARRAY, from the residual, the stacked norm weights, the quantised weight and its scale. -/
theorem final : (dat3 V c).arrAt 4 cfg3.N = fun i : S8192x4096.Idx =>
    normed (layer (fun k => (V c main_v4_0 : S8192x4096.Idx → EReal) (ix2 (i 0) k)) (rowOf (V c main_v8 : S2x4096.Idx → EReal) 0)
      (rowOf (V c main_v5_0 : S4096x4096.Idx → EReal)) ((V c main_v5_1 : S1x1.Idx → EReal) (ix2 0 0))) (rowOf (V c main_v8 : S2x4096.Idx → EReal) 1) (i 1) := by
  refine (dat3 V c).arrAt_eq_of_covers 4 _ (by decide +kernel) fun t hf y => ?_
  blk_simp
  rw [after3_4]
  idx_vars y
  refine (last_at _ _ _ _ _ _).trans ?_
  have e1 : (blk3 V c 1 t : S2x4096.Idx → EReal) = V c main_v8 := by blk_ext! [blk3, where3 t]
  have e2 : (blk3 V c 2 t : S4096x4096.Idx → EReal) = V c main_v5_0 := by blk_ext! [blk3, where3 t]
  have e3 : (blk3 V c 3 t : S1x1.Idx → EReal) cellS = (V c main_v5_1 : S1x1.Idx → EReal) (ix2 0 0) := by unfold cellS; blk_ext [blk3, where3 t]
  rw [e1, e2]
  refine last_congr (funext fun k => ?_) e3 (Fin.ext ?_)
  · unfold rowOf; blk_ext [blk3, where3 t]
  · blk_simp [where3 t]

end Cert.KernelIdeal.Own

end
-- ==== Proof.Value.Reference.lean ====
/- The reference's result at an index: the row mathematics of the arguments' rows. -/
module

public import proofs.«01_k».proof.Proof.Gen.ReferenceIdeal.Value
public import proofs.«01_k».proof.Proof.Value.Rows
public import Idealize.ShloMosaic.Lib.Pointwise
public import Idealize.ShloMosaic.Lib.Pipeline.ValueKit

@[expose] public section

set_option maxRecDepth 16384

noncomputable section

namespace Cert.ReferenceIdeal.Own

open Cert.ReferenceIdeal Cert.ReferenceIdeal.Gen Idealize.ShloMosaic Cert.Rows

/-- A row of the token array. -/
def row (x : Vec Ideal S8192x4096 .f32) (a : Fin 8192) (k : Fin 4096) : EReal := x (ix2 a k)
/-- A norm weight as a row. -/
def vec (n : Vec Ideal S4096 .f32) (k : Fin 4096) : EReal := n (ix1 k)
/-- A weight by its two coordinates. -/
def mat (w : Vec Ideal S4096x4096 .f32) (j k : Fin 4096) : EReal := w (ix2 j k)

/-! ## The first layer -/

theorem norm0_at (x : Vec Ideal S8192x4096 .f32) (n : Vec Ideal S4096 .f32) (a : Fin 8192) (b : Fin 4096) :
    k0_pay3 x n (ix2 a b) = normed (row (k0_pay2 x) a) (vec n) b := by
  pointwise [k0_pay3]; rfl

theorem scale0_at (x : Vec Ideal S8192x4096 .f32) (n : Vec Ideal S4096 .f32) (a : Fin 8192) (b : Fin 1) :
    k0_pay4 x n (ix2 a b) = rowScale (row (k0_pay2 x) a) (vec n) := by
  pointwise [k0_pay4]; simp only [norm0_at]; rfl

theorem quant0_at (x : Vec Ideal S8192x4096 .f32) (n : Vec Ideal S4096 .f32) (a : Fin 8192) (b : Fin 4096) :
    k0_pay5 x n (ix2 a b) = clip (Ideal.div (normed (row (k0_pay2 x) a) (vec n) b) (rowScale (row (k0_pay2 x) a) (vec n))) := by
  pointwise [k0_pay5]; simp only [norm0_at, scale0_at]; rfl

theorem top1 (w : Vec Ideal S4096x4096 .f32) : k0_pay6 w = scale (weightTop (mat w)) := by
  pointwise [k0_pay6]; rfl

theorem div1_at (w : Vec Ideal S4096x4096 .f32) (j k : Fin 4096) : k0_pay7 w (ix2 j k) = Ideal.div (mat w j k) (scale (weightTop (mat w))) := by
  pointwise [k0_pay7]; rw [top1]; rfl

theorem first_at (x : Vec Ideal S8192x4096 .f32) (n : Vec Ideal S4096 .f32) (w : Vec Ideal S4096x4096 .f32) (a : Fin 8192) (b : Fin 4096) :
    k0_pay8 (k0_pay2 x) (k0_pay4 x n) (k0_pay5 x n) (k0_pay6 w) (k0_pay7 w) (Scalar.ofBits .f32 0xC3E00000#32) (ix2 a b)
      = stage (row (k0_pay2 x) a) (vec n) (mat w) b := by
  pointwise [k0_pay8]; simp only [scale0_at, quant0_at, top1, div1_at]; rfl

theorem relu_row (x : Vec Ideal S8192x4096 .f32) (a : Fin 8192) : row (k0_pay2 x) a = fun k => max (row x a k) 0 := by
  funext k; unfold row; pointwise [k0_pay2]

/-! ## The second layer, on the rows that the first leaves -/

section
variable (v2 : FVec Ideal S8192x4096 .f32) (v24 : FVec Ideal S8192x1 .f32) (v32 : FVec Ideal S8192x4096 .f32) (v39 : Ideal .f32)
  (v41 : FVec Ideal S4096x4096 .f32) (z : Ideal .f32) (n : Vec Ideal S4096 .f32) (w : Vec Ideal S4096x4096 .f32)

theorem norm1_at (a : Fin 8192) (b : Fin 4096) :
    k0_pay9 v2 v24 v32 v39 v41 z n (ix2 a b) = normed (row (k0_pay8 v2 v24 v32 v39 v41 z) a) (vec n) b := by
  pointwise [k0_pay9]; rfl

theorem scale1_at (a : Fin 8192) (b : Fin 1) :
    k0_pay10 v2 v24 v32 v39 v41 z n (ix2 a b) = rowScale (row (k0_pay8 v2 v24 v32 v39 v41 z) a) (vec n) := by
  pointwise [k0_pay10]; simp only [norm1_at]; rfl

theorem quant1_at (a : Fin 8192) (b : Fin 4096) :
    k0_pay11 v2 v24 v32 v39 v41 z n (ix2 a b) = clip (Ideal.div (normed (row (k0_pay8 v2 v24 v32 v39 v41 z) a) (vec n) b)
      (rowScale (row (k0_pay8 v2 v24 v32 v39 v41 z) a) (vec n))) := by
  pointwise [k0_pay11]; simp only [norm1_at, scale1_at]; rfl

theorem top2 (i : S1x1x1.Idx) : k0_pay12 w i = weightTop (mat w) := by
  idx_vars i
  pointwise [k0_pay12]; rfl

theorem second_at (a : Fin 8192) (b : Fin 4096) :
    k0_pay13 (k0_pay8 v2 v24 v32 v39 v41 z) w (k0_pay10 v2 v24 v32 v39 v41 z n) (k0_pay11 v2 v24 v32 v39 v41 z n) (k0_pay12 w) (ix2 a b)
      = stage (row (k0_pay8 v2 v24 v32 v39 v41 z) a) (vec n) (mat w) b := by
  pointwise [k0_pay13]; simp only [scale1_at, quant1_at, top2]; rfl
end

/-! ## The third layer and the last norm -/

section
variable (v53 : FVec Ideal S8192x4096 .f32) (w2 : Vec Ideal S4096x4096 .f32) (v75 : FVec Ideal S8192x1 .f32) (v83 : FVec Ideal S8192x4096 .f32)
  (v87 : FVec Ideal S1x1x1 .f32) (n : Vec Ideal S4096 .f32) (w : Vec Ideal S4096x4096 .f32) (nf : Vec Ideal S4096 .f32)

theorem norm2_at (a : Fin 8192) (b : Fin 4096) :
    k0_pay14 v53 w2 v75 v83 v87 n (ix2 a b) = normed (row (k0_pay13 v53 w2 v75 v83 v87) a) (vec n) b := by
  pointwise [k0_pay14]; rfl

theorem scale2_at (a : Fin 8192) (b : Fin 1) :
    k0_pay15 v53 w2 v75 v83 v87 n (ix2 a b) = rowScale (row (k0_pay13 v53 w2 v75 v83 v87) a) (vec n) := by
  pointwise [k0_pay15]; simp only [norm2_at]; rfl

theorem low2_at (a : Fin 8192) (b : Fin 4096) :
    k0_pay16 v53 w2 v75 v83 v87 n (ix2 a b) = max low8 (Ideal.div (normed (row (k0_pay13 v53 w2 v75 v83 v87) a) (vec n) b)
      (rowScale (row (k0_pay13 v53 w2 v75 v83 v87) a) (vec n))) := by
  pointwise [k0_pay16]; simp only [norm2_at, scale2_at]

theorem last_at (a : Fin 8192) (b : Fin 4096) :
    k0_pay1 (k0_pay13 v53 w2 v75 v83 v87) w (k0_pay15 v53 w2 v75 v83 v87 n) (k0_pay16 v53 w2 v75 v83 v87 n) (k0_pay17 (F := Ideal)) nf (ix2 a b)
      = normed (stage (row (k0_pay13 v53 w2 v75 v83 v87) a) (vec n) (mat w)) (vec nf) b := by
  pointwise [k0_pay1, k0_pay17]; simp only [scale2_at, low2_at]; rfl
end

/-- THE REFERENCE at an index: the row mathematics of that row of the tokens. -/
theorem reference_at (x : Vec Ideal S8192x4096 .f32) (n0 n1 n2 n3 : Vec Ideal S4096 .f32) (w1 w2 w3 : Vec Ideal S4096x4096 .f32)
    (a : Fin 8192) (b : Fin 4096) :
    Value.G8 x n0 n1 n2 n3 w1 w2 w3 (ix2 a b)
      = result (row x a) (vec n0) (vec n1) (vec n2) (vec n3) (mat w1) (mat w2) (mat w3) b := by
  have hz1 : (![0] : Fin 1 → Nat) = fun _ => 0 := funext fun k => by fin_cases k <;> rfl
  have hz2 : (![0, 0] : Fin 2 → Nat) = fun _ => 0 := funext fun k => by fin_cases k <;> rfl
  unfold Value.G8 k0_pay25 k0_pay24 k0_pay23 k0_pay22 k0_pay21 k0_pay20 k0_pay19 k0_pay18
  rw [View.ld_unit_zero (S := S8192x4096) hz2 _ x, View.ld_unit_zero (S := S4096) hz1 _ n0, View.ld_unit_zero (S := S4096) hz1 _ n1,
    View.ld_unit_zero (S := S4096x4096) hz2 _ w1, View.ld_unit_zero (S := S4096x4096) hz2 _ w2, last_at]
  unfold result middle
  congr 2
  rw [show row (k0_pay13 _ w2 _ _ _) a = _ from funext fun k => second_at _ _ _ _ _ _ n1 w2 a k]
  congr 1
  refine (funext fun k => first_at x n0 w1 a k).trans ?_
  rw [relu_row]

end Cert.ReferenceIdeal.Own

end
-- ==== Proof.Value.Equation.lean ====
/- The kernel's result array over the arguments as launched, and that it is the reference's. -/
module

public import proofs.«01_k».proof.Proof.Ideal.Run
public import proofs.«01_k».proof.Proof.Value.Arrays
public import proofs.«01_k».proof.Proof.Value.Reference
public import Idealize.ShloMosaic.Lib.Claim

@[expose] public section

set_option maxRecDepth 16384

noncomputable section

namespace Cert.KernelIdeal.Own

open Cert.KernelIdeal Cert.KernelIdeal.Gen Idealize.ShloMosaic Idealize.ShloMosaic.TcCoe Cert.Rows
open Idealize.ShloMosaic.Pipeline (Dat Cfg Window)

variable (m : (ℓ : Loc nD τ sig) → Buf (Elt Ideal) ℓ) (c : Dev nD)

/-! ## The arguments -/

/-- A token's row, as launched. -/
def token (a : Fin 8192) (k : Fin 4096) : EReal := (m ((c : Thread nD τ).loc main_arg0) : S8192x4096.Idx → EReal) (ix2 a k)
/-- The norm weights, as launched. -/
def weightA (k : Fin 4096) : EReal := (m ((c : Thread nD τ).loc main_arg1) : S4096.Idx → EReal) (ix1 k)
def weightB (k : Fin 4096) : EReal := (m ((c : Thread nD τ).loc main_arg2) : S4096.Idx → EReal) (ix1 k)
def weightC (k : Fin 4096) : EReal := (m ((c : Thread nD τ).loc main_arg3) : S4096.Idx → EReal) (ix1 k)
def weightD (k : Fin 4096) : EReal := (m ((c : Thread nD τ).loc main_arg4) : S4096.Idx → EReal) (ix1 k)
/-- The three weights, as launched. -/
def matA (j k : Fin 4096) : EReal := (m ((c : Thread nD τ).loc main_arg5) : S4096x4096.Idx → EReal) (ix2 j k)
def matB (j k : Fin 4096) : EReal := (m ((c : Thread nD τ).loc main_arg6) : S4096x4096.Idx → EReal) (ix2 j k)
def matC (j k : Fin 4096) : EReal := (m ((c : Thread nD τ).loc main_arg7) : S4096x4096.Idx → EReal) (ix2 j k)

/-! ## What the fused call finds -/

/-- A buffer neither the first call nor the host writes. -/
theorem early (r : Ref sig .tc) (h0 : ∀ w : Fin cfg0.W, Pipeline.arrRef spec0 w = r → (cfg0.win w).isOut = false) (h1 : r ∉ hostOps1_W) :
    mem2 m c (Proc.devRef .tc r) = mem0 m c (Proc.devRef .tc r) := (mem2_of m c r h1).trans (mem1_of m c r h0)

theorem early_tokens : mem2 m c (Proc.devRef .tc main_arg0) = m ((c : Thread nD τ).loc main_arg0) :=
  early m c main_arg0 (by decide +kernel) (by decide +kernel)
theorem early_third : mem2 m c (Proc.devRef .tc main_arg7) = m ((c : Thread nD τ).loc main_arg7) :=
  early m c main_arg7 (by decide +kernel) (by decide +kernel)

theorem early_cast1 : mem2 m c (Proc.devRef .tc main_v0_0) = fun i : S4096x4096.Idx => quant (matA m c) (i 0) (i 1) :=
  (mem2_of m c main_v0_0 (by decide +kernel)).trans ((mem1_arr m c 2).trans (cast1 (refs (mem0 m)) c))
theorem early_cast2 : mem2 m c (Proc.devRef .tc main_v0_1) = fun i : S4096x4096.Idx => quant (matB m c) (i 0) (i 1) :=
  (mem2_of m c main_v0_1 (by decide +kernel)).trans ((mem1_arr m c 3).trans (cast2 (refs (mem0 m)) c))

theorem late_unit1 : mem1 m c (Proc.devRef .tc main_v0_2) = fun _ : S1x1.Idx => scale (weightTop (matA m c)) :=
  (mem1_arr m c 4).trans (unit1 (refs (mem0 m)) c)
theorem late_unit2 : mem1 m c (Proc.devRef .tc main_v0_3) = fun _ : S1x1.Idx => scale (weightTop (matB m c)) :=
  (mem1_arr m c 5).trans (unit2 (refs (mem0 m)) c)

theorem pair_at (x y : S1x1.Idx → EReal) :
    (concatenate S1x2 1 [⟨S1x1, x⟩, ⟨S1x1, y⟩] concatenates_S1x1_S1x1_S1x2_d1 : S1x2.Idx → EReal) (ix2 0 0) = x (ix2 0 0)
      ∧ (concatenate S1x2 1 [⟨S1x1, x⟩, ⟨S1x1, y⟩] concatenates_S1x1_S1x1_S1x2_d1 : S1x2.Idx → EReal) (ix2 0 1) = y (ix2 0 0) := by
  constructor <;> pointwise <;> rfl

theorem early_pair : mem2 m c (Proc.devRef .tc main_v1) = (concatenate S1x2 1 [⟨S1x1, mem1 m c (Proc.devRef .tc main_v0_2)⟩,
    ⟨S1x1, mem1 m c (Proc.devRef .tc main_v0_3)⟩] concatenates_S1x1_S1x1_S1x2_d1 : S1x2.Idx → Ideal .f32) := by
  unfold_abbrev_sides; after_results
theorem early_unit1 : (mem2 m c (Proc.devRef .tc main_v1) : S1x2.Idx → EReal) (ix2 0 0) = scale (weightTop (matA m c)) := by
  rw [early_pair, late_unit1, late_unit2]; exact (pair_at _ _).1
theorem early_unit2 : (mem2 m c (Proc.devRef .tc main_v1) : S1x2.Idx → EReal) (ix2 0 1) = scale (weightTop (matB m c)) := by
  rw [early_pair, late_unit1, late_unit2]; exact (pair_at _ _).2

theorem early_normA : rowOf (mem2 m c (Proc.devRef .tc main_v2) : S1x4096.Idx → EReal) 0 = weightA m c := by
  have e : mem2 m c (Proc.devRef .tc main_v2) = shapeCast S1x4096 (mem1 m c (Proc.devRef .tc main_arg1)) shapeCasts_S4096_S1x4096 := by
    unfold_abbrev_sides; after_results; rfl
  rw [e, mem1_of m c main_arg1 (by decide +kernel)]
  funext k; unfold rowOf weightA; pointwise
theorem early_normB : rowOf (mem2 m c (Proc.devRef .tc main_v3) : S1x4096.Idx → EReal) 0 = weightB m c := by
  have e : mem2 m c (Proc.devRef .tc main_v3) = shapeCast S1x4096 (mem1 m c (Proc.devRef .tc main_arg2)) shapeCasts_S4096_S1x4096 := by
    unfold_abbrev_sides; after_results; rfl
  rw [e, mem1_of m c main_arg2 (by decide +kernel)]
  funext k; unfold rowOf weightB; pointwise

/-! ## What the two fused layers leave -/

/-- The residual after two layers. -/
theorem mid_residual : mem3 m c (Proc.devRef .tc main_v4_0)
    = fun i : S8192x4096.Idx => middle (token m c (i 0)) (weightA m c) (weightB m c) (matA m c) (matB m c) (i 1) := by
  refine (mem3_arr m c 7).trans ((fused (refs (mem2 m)) c).trans (funext fun i => ?_))
  show layer (layer (fun k => max ((mem2 m c (Proc.devRef .tc main_arg0) : S8192x4096.Idx → EReal) (ix2 (i 0) k)) 0)
        (rowOf (mem2 m c (Proc.devRef .tc main_v2) : S1x4096.Idx → EReal) 0)
        (rowOf (mem2 m c (Proc.devRef .tc main_v0_0) : S4096x4096.Idx → EReal)) ((mem2 m c (Proc.devRef .tc main_v1) : S1x2.Idx → EReal) (ix2 0 0)))
      (rowOf (mem2 m c (Proc.devRef .tc main_v3) : S1x4096.Idx → EReal) 0)
      (rowOf (mem2 m c (Proc.devRef .tc main_v0_1) : S4096x4096.Idx → EReal)) ((mem2 m c (Proc.devRef .tc main_v1) : S1x2.Idx → EReal) (ix2 0 1)) (i 1) = _
  rw [early_tokens, early_normA, early_normB, early_cast1, early_cast2, early_unit1, early_unit2]
  rfl

/-- The greatest magnitude in the third weight. -/
theorem mid_most : mem3 m c (Proc.devRef .tc main_v4_1) = fun _ : S1x1.Idx => weightTop (matC m c) := by
  refine (mem3_arr m c 8).trans ((most3 (refs (mem2 m)) c).trans (funext fun i => congrArg weightTop ?_))
  funext j k
  show (mem2 m c (Proc.devRef .tc main_arg7) : S4096x4096.Idx → EReal) (ix2 j k) = _
  rw [early_third]; rfl

theorem mid_third : mem3 m c (Proc.devRef .tc main_arg7) = m ((c : Thread nD τ).loc main_arg7) :=
  (mem3_of m c main_arg7 (by decide +kernel)).trans (early_third m c)

/-! ## What the last call finds -/

theorem late_residual : mem5 m c (Proc.devRef .tc main_v4_0) = mem3 m c (Proc.devRef .tc main_v4_0) :=
  (mem5_of m c main_v4_0 (by decide +kernel)).trans (mem4_of m c main_v4_0 (by decide +kernel))

theorem late_cast3 : mem5 m c (Proc.devRef .tc main_v5_0) = fun i : S4096x4096.Idx => quant (matC m c) (i 0) (i 1) := by
  refine (mem5_of m c main_v5_0 (by decide +kernel)).trans ((mem4_arr m c 2).trans ((cast3 (refs (mem3 m)) c).trans (funext fun i => ?_)))
  show clip (Ideal.div ((mem3 m c (Proc.devRef .tc main_arg7) : S4096x4096.Idx → EReal) (ix2 (i 0) (i 1)))
    (scale ((mem3 m c (Proc.devRef .tc main_v4_1) : S1x1.Idx → EReal) (ix2 0 0)))) = _
  rw [mid_third, mid_most]; rfl
theorem late_unit3 : mem5 m c (Proc.devRef .tc main_v5_1) = fun _ : S1x1.Idx => scale (weightTop (matC m c)) := by
  refine (mem5_of m c main_v5_1 (by decide +kernel)).trans ((mem4_arr m c 3).trans ((unit3 (refs (mem3 m)) c).trans (funext fun i => ?_)))
  show scale ((mem3 m c (Proc.devRef .tc main_v4_1) : S1x1.Idx → EReal) (ix2 0 0)) = _
  rw [mid_most]

/-- An argument no item before the last host stretch writes. -/
theorem late_arg (r : Ref sig .tc) (h0 : ∀ w : Fin cfg0.W, Pipeline.arrRef spec0 w = r → (cfg0.win w).isOut = false) (h1 : r ∉ hostOps1_W)
    (h2 : ∀ w : Fin cfg1.W, Pipeline.arrRef spec1 w = r → (cfg1.win w).isOut = false)
    (h3 : ∀ w : Fin cfg2.W, Pipeline.arrRef spec2 w = r → (cfg2.win w).isOut = false) :
    mem4 m c (Proc.devRef .tc r) = mem0 m c (Proc.devRef .tc r) :=
  (mem4_of m c r h3).trans ((mem3_of m c r h2).trans (early m c r h0 h1))
theorem late_arg3 : mem4 m c (Proc.devRef .tc main_arg3) = m ((c : Thread nD τ).loc main_arg3) :=
  late_arg m c main_arg3 (by decide +kernel) (by decide +kernel) (by decide +kernel) (by decide +kernel)
theorem late_arg4 : mem4 m c (Proc.devRef .tc main_arg4) = m ((c : Thread nD τ).loc main_arg4) :=
  late_arg m c main_arg4 (by decide +kernel) (by decide +kernel) (by decide +kernel) (by decide +kernel)

theorem stack_at (x y : S4096.Idx → EReal) (k : Fin 4096) :
    (concatenate S2x4096 0 [⟨S1x4096, broadcastInDim S1x4096 ![1] bcast_S4096_S1x4096_1 x⟩, ⟨S1x4096, broadcastInDim S1x4096 ![1] bcast_S4096_S1x4096_1 y⟩]
        concatenates_S1x4096_S1x4096_S2x4096_d0 : S2x4096.Idx → EReal) (ix2 0 k) = x (ix1 k)
      ∧ (concatenate S2x4096 0 [⟨S1x4096, broadcastInDim S1x4096 ![1] bcast_S4096_S1x4096_1 x⟩, ⟨S1x4096, broadcastInDim S1x4096 ![1] bcast_S4096_S1x4096_1 y⟩]
        concatenates_S1x4096_S1x4096_S2x4096_d0 : S2x4096.Idx → EReal) (ix2 1 k) = y (ix1 k) := by
  constructor <;> pointwise <;> rfl

theorem late_stack : mem5 m c (Proc.devRef .tc main_v8)
    = (concatenate S2x4096 0 [⟨S1x4096, broadcastInDim S1x4096 ![1] bcast_S4096_S1x4096_1 (mem4 m c (Proc.devRef .tc main_arg3))⟩,
      ⟨S1x4096, broadcastInDim S1x4096 ![1] bcast_S4096_S1x4096_1 (mem4 m c (Proc.devRef .tc main_arg4))⟩]
        concatenates_S1x4096_S1x4096_S2x4096_d0 : S2x4096.Idx → Ideal .f32) := by
  unfold_abbrev_sides; after_results
theorem late_normC : rowOf (mem5 m c (Proc.devRef .tc main_v8) : S2x4096.Idx → EReal) 0 = weightC m c := by
  rw [late_stack, late_arg3, late_arg4]; exact funext fun k => (stack_at _ _ k).1
theorem late_normD : rowOf (mem5 m c (Proc.devRef .tc main_v8) : S2x4096.Idx → EReal) 1 = weightD m c := by
  rw [late_stack, late_arg3, late_arg4]; exact funext fun k => (stack_at _ _ k).2

/-! ## The result -/

/-- THE RESULT ARRAY over the arguments as launched. -/
theorem kernel_result : (dat3 (refs (mem5 m)) c).arrAt 4 cfg3.N = fun i : S8192x4096.Idx =>
    result (token m c (i 0)) (weightA m c) (weightB m c) (weightC m c) (weightD m c) (matA m c) (matB m c) (matC m c) (i 1) := by
  refine (final (refs (mem5 m)) c).trans (funext fun i => ?_)
  show normed (layer (fun k => (mem5 m c (Proc.devRef .tc main_v4_0) : S8192x4096.Idx → EReal) (ix2 (i 0) k))
      (rowOf (mem5 m c (Proc.devRef .tc main_v8) : S2x4096.Idx → EReal) 0)
      (rowOf (mem5 m c (Proc.devRef .tc main_v5_0) : S4096x4096.Idx → EReal)) ((mem5 m c (Proc.devRef .tc main_v5_1) : S1x1.Idx → EReal) (ix2 0 0)))
    (rowOf (mem5 m c (Proc.devRef .tc main_v8) : S2x4096.Idx → EReal) 1) (i 1) = _
  rw [late_normC, late_normD, late_residual, mid_residual, late_cast3, late_unit3]
  rfl

/-- THE EQUATION: the kernel's result is the reference's function of the same arguments. -/
theorem equation : (dat3 (refs (mem5 m)) c).arrAt 4 cfg3.N
    = Cert.ReferenceIdeal.Value.G8 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  rw [kernel_result]
  funext i
  idx_vars i
  exact (Cert.ReferenceIdeal.Own.reference_at _ _ _ _ _ _ _ _ _ _).symm

end Cert.KernelIdeal.Own

end
-- ==== Proof.lean ====
/- The assembly of the five claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Same
public import proofs.«01_k».proof.Proof.Ideal.Run
public import proofs.«01_k».proof.Proof.Value.Equation
public import Idealize.ShloMosaic.Adequacy
public import Idealize.ShloMosaic.Init

@[expose] public section

noncomputable section

namespace Cert.Proof

open Idealize.ShloMosaic Idealize.SL.Sem

/-- The two programs' results are equal over the extended reals. -/
theorem equal : @Cert.algebraic_KernelIdeal_ReferenceIdeal Cert.KernelIdeal.Gen.facts Cert.ReferenceIdeal.Gen.facts := by
  intro m g m' g' _ h
  refine ⟨fun c => Cert.ReferenceIdeal.Value.G8 (F := Ideal) (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5))
    (m ((c.tc : Thread _ _).loc Cert.KernelIdeal.main_arg6)) (m ((c.tc : Thread _ _).loc Cert.KernelIdeal.main_arg7)), ?_, ?_⟩
  · exact (θ_run _ _ _).mono (fun _ k c => ⟨(k c).1.trans (Cert.KernelIdeal.Own.equation m c), (k c).2⟩) (Cert.KernelIdeal.Own.run_result m g)
  · refine (θ_run _ _ _).mono (fun _ k c => ⟨(k c).1.trans ?_, (k c).2⟩) (Cert.ReferenceIdeal.Value.run m' g')
    obtain ⟨e0, e1, e2, e3, e4, e5, e6, e7⟩ := h c
    rw [e0, e1, e2, e3, e4, e5, e6, e7]

theorem claim : Cert.Claim :=
  ⟨Cert.Kernel.Gen.facts, Cert.KernelIdeal.Gen.facts, Cert.ReferenceIdeal.Gen.facts,
    Cert.Same.frame,
    fun m ρ _ => Cert.KernelIdeal.Own.frame m ρ,
    fun m ρ _ => Cert.ReferenceIdeal.Gen.frame m ρ,
    trivial,
    equal⟩

end Cert.Proof

end
